-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_AttentionRef (m : (ℓ : Loc Cert.AttentionRef.nD Cert.AttentionRef.τ Cert.AttentionRef.sig) → Buf (Elt Bits) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)
      ∧ r.2.mem ((c.tc : Thread Cert.AttentionRefIdeal.nD Cert.AttentionRefIdeal.τ).loc Cert.AttentionRefIdeal.main_arg8) = m ((c.tc : Thread Cert.AttentionRefIdeal.nD Cert.AttentionRefIdeal.τ).loc Cert.AttentionRefIdeal.main_arg8))
      ∧ r.2.sem = fun _ => 0)

def quiescent_AttentionRef [hAttentionRef : Cert.AttentionRef.Facts] : Prop :=
  ∀ (m : (ℓ : Loc Cert.AttentionRef.nD Cert.AttentionRef.τ Cert.AttentionRef.sig) → Buf (Elt Bits) ℓ) (g : Dev Cert.AttentionRef.nD → PrngReg), Pre_AttentionRef m →
    θ_run (Cert.AttentionRef.defs (F := Bits)) (onTc (τ := Cert.AttentionRef.τ) (Cert.AttentionRef.main (F := Bits))) ⟨m, fun _ => 0, g⟩ (fun r => (∀ c : Dev Cert.AttentionRef.nD,
      r.2.mem ((c.tc : Thread Cert.AttentionRef.nD Cert.AttentionRef.τ).loc Cert.AttentionRef.main_arg0) = m ((c.tc : Thread Cert.AttentionRef.nD Cert.AttentionRef.τ).loc Cert.AttentionRef.main_arg0)
      ∧ r.2.mem ((c.tc : Thread Cert.AttentionRef.nD Cert.AttentionRef.τ).loc Cert.AttentionRef.main_arg1) = m ((c.tc : Thread Cert.AttentionRef.nD Cert.AttentionRef.τ).loc Cert.AttentionRef.main_arg1)
      ∧ r.2.mem ((c.tc : Thread Cert.AttentionRef.nD Cert.AttentionRef.τ).loc Cert.AttentionRef.main_arg2) = m ((c.tc : Thread Cert.AttentionRef.nD Cert.AttentionRef.τ).loc Cert.AttentionRef.main_arg2)
      ∧ r.2.mem ((c.tc : Thread Cert.AttentionRef.nD Cert.AttentionRef.τ).loc Cert.AttentionRef.main_arg3) = m ((c.tc : Thread Cert.AttentionRef.nD Cert.AttentionRef.τ).loc Cert.AttentionRef.main_arg3)
      ∧ r.2.mem ((c.tc : Thread Cert.AttentionRef.nD Cert.AttentionRef.τ).loc Cert.AttentionRef.main_arg4) = m ((c.tc : Thread Cert.AttentionRef.nD Cert.AttentionRef.τ).loc Cert.AttentionRef.main_arg4)
      ∧ r.2.mem ((c.tc : Thread Cert.AttentionRef.nD Cert.AttentionRef.τ).loc Cert.AttentionRef.main_arg5) = m ((c.tc : Thread Cert.AttentionRef.nD Cert.AttentionRef.τ).loc Cert.AttentionRef.main_arg5)
      ∧ r.2.mem ((c.tc : Thread Cert.AttentionRef.nD Cert.AttentionRef.τ).loc Cert.AttentionRef.main_arg6) = m ((c.tc : Thread Cert.AttentionRef.nD Cert.AttentionRef.τ).loc Cert.AttentionRef.main_arg6)
      ∧ r.2.mem ((c.tc : Thread Cert.AttentionRef.nD Cert.AttentionRef.τ).loc Cert.AttentionRef.main_arg7) = m ((c.tc : Thread Cert.AttentionRef.nD Cert.AttentionRef.τ).loc Cert.AttentionRef.main_arg7)
      ∧ r.2.mem ((c.tc : Thread Cert.AttentionRef.nD Cert.AttentionRef.τ).loc Cert.AttentionRef.main_arg8) = m ((c.tc : Thread Cert.AttentionRef.nD Cert.AttentionRef.τ).loc Cert.AttentionRef.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def preserves_Attention_AttentionIdeal : Prop :=
  IdealRules.named_const.Statement Cert.AttentionIdeal.κ "log2_fp8_max" .f32 0x410CEAED#32 (((Real.log 448) * (Real.log 2)⁻¹ : ℝ) : EReal)
  ∧ IdealRules.named_const.Statement Cert.AttentionIdeal.κ "sm_scale_log2e" .f32 0x3E0293EE#32 (((Real.sqrt 128)⁻¹ * (Real.log 2)⁻¹ : ℝ) : EReal)
  ∧ IdealRules.named_const.Statement Cert.AttentionIdeal.κ "sm_scale" .f32 0x3DB504F3#32 (((Real.sqrt 128)⁻¹ : ℝ) : EReal)

def preserves_AttentionRef_AttentionRefIdeal : Prop :=
  IdealRules.named_const.Statement Cert.AttentionRefIdeal.κ "sm_scale" .f32 0x3DB504F3#32 (((Real.sqrt 128)⁻¹ : ℝ) : EReal)
  ∧ IdealRules.named_const.Statement Cert.AttentionRefIdeal.κ "log2e" .f32 0x3FB8AA3B#32 (((Real.log 2)⁻¹ : ℝ) : EReal)

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)
      ∧ m' ((c.tc : Thread Cert.AttentionRefIdeal.nD Cert.AttentionRefIdeal.τ).loc Cert.AttentionRefIdeal.main_arg8) = m ((c.tc : Thread Cert.AttentionIdeal.nD Cert.AttentionIdeal.τ).loc Cert.AttentionIdeal.main_arg8)) →
    ∃ (v0 : (c : Dev Cert.AttentionIdeal.nD) → Buf (Elt Ideal) ((c.tc : Thread Cert.AttentionIdeal.nD Cert.AttentionIdeal.τ).loc Cert.AttentionIdeal.main_v0_0)) (v1 : (c : Dev Cert.AttentionIdeal.nD) → Buf (Elt Ideal) ((c.tc : Thread Cert.AttentionIdeal.nD Cert.AttentionIdeal.τ).loc Cert.AttentionIdeal.main_v0_1)) (v2 : (c : Dev Cert.AttentionIdeal.nD) → Buf (Elt Ideal) ((c.tc : Thread Cert.AttentionIdeal.nD Cert.AttentionIdeal.τ).loc Cert.AttentionIdeal.main_v0_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0_0) = v0 c
          ∧ r.2.mem ((c.tc : Thread Cert.AttentionIdeal.nD Cert.AttentionIdeal.τ).loc Cert.AttentionIdeal.main_v0_1) = v1 c
          ∧ r.2.mem ((c.tc : Thread Cert.AttentionIdeal.nD Cert.AttentionIdeal.τ).loc Cert.AttentionIdeal.main_v0_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v0_0) = v0 c
          ∧ r.2.mem ((c.tc : Thread Cert.AttentionRefIdeal.nD Cert.AttentionRefIdeal.τ).loc Cert.AttentionRefIdeal.main_v0_1) = v1 c
          ∧ r.2.mem ((c.tc : Thread Cert.AttentionRefIdeal.nD Cert.AttentionRefIdeal.τ).loc Cert.AttentionRefIdeal.main_v0_2) = v2 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7)
          ∧ r.2.mem ((c.tc : Thread Cert.AttentionRefIdeal.nD Cert.AttentionRefIdeal.τ).loc Cert.AttentionRefIdeal.main_arg8) = m' ((c.tc : Thread Cert.AttentionRefIdeal.nD Cert.AttentionRefIdeal.τ).loc Cert.AttentionRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)) (v2 : (c : Dev Cert.OutIdeal.nD) → Buf (Elt Ideal) ((c.tc : Thread Cert.OutIdeal.nD Cert.OutIdeal.τ).loc Cert.OutIdeal.main_v5_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_v5_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2_0) = v0 c
          ∧ r.2.mem ((c.tc : Thread Cert.OutRefIdeal.nD Cert.OutRefIdeal.τ).loc Cert.OutRefIdeal.main_v2_1) = v1 c
          ∧ r.2.mem ((c.tc : Thread Cert.OutRefIdeal.nD Cert.OutRefIdeal.τ).loc Cert.OutRefIdeal.main_v2_2) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def Claim : Prop :=
  ∃ (hAttention : Cert.Attention.Facts) (hAttentionIdeal : Cert.AttentionIdeal.Facts) (hAttentionRefIdeal : Cert.AttentionRefIdeal.Facts) (hAttentionRef : Cert.AttentionRef.Facts) (hOut : Cert.Out.Facts) (hOutIdeal : Cert.OutIdeal.Facts) (hOutRefIdeal : Cert.OutRefIdeal.Facts),
    quiescent_Attention (hAttention := hAttention)
    ∧ quiescent_AttentionIdeal (hAttentionIdeal := hAttentionIdeal)
    ∧ quiescent_AttentionRefIdeal (hAttentionRefIdeal := hAttentionRefIdeal)
    ∧ quiescent_AttentionRef (hAttentionRef := hAttentionRef)
    ∧ quiescent_Out (hOut := hOut)
    ∧ quiescent_OutIdeal (hOutIdeal := hOutIdeal)
    ∧ quiescent_OutRefIdeal (hOutRefIdeal := hOutRefIdeal)
    ∧ preserves_Attention_AttentionIdeal
    ∧ preserves_AttentionRef_AttentionRefIdeal
    ∧ algebraic_AttentionIdeal_AttentionRefIdeal (hAttentionIdeal := hAttentionIdeal) (hAttentionRefIdeal := hAttentionRefIdeal)
    ∧ preserves_Out_OutIdeal
    ∧ algebraic_OutIdeal_OutRefIdeal (hOutIdeal := hOutIdeal) (hOutRefIdeal := hOutRefIdeal)
-- ==== Attention.lean ====
abbrev S16384x1280 : Shape := ⟨2, ![16384, 1280]⟩
abbrev S2x8x8192 : Shape := ⟨3, ![2, 8, 8192]⟩
abbrev S10x8192x128 : Shape := ⟨3, ![10, 8192, 128]⟩
abbrev S10x4x8192x128 : Shape := ⟨4, ![10, 4, 8192, 128]⟩
abbrev S10x1024x128 : Shape := ⟨3, ![10, 1024, 128]⟩
abbrev S10x128x8192 : Shape := ⟨3, ![10, 128, 8192]⟩
abbrev S10x8x128 : Shape := ⟨3, ![10, 8, 128]⟩
abbrev S16384x640 : Shape := ⟨2, ![16384, 640]⟩
abbrev S2x8x640 : Shape := ⟨3, ![2, 8, 640]⟩
abbrev S81920x128 : Shape := ⟨2, ![81920, 128]⟩
abbrev S10x1x8192 : Shape := ⟨3, ![10, 1, 8192]⟩
abbrev S256x256 : Shape := ⟨2, ![256, 256]⟩
abbrev S1x8x256 : Shape := ⟨3, ![1, 8, 256]⟩
abbrev S1x8192x128 : Shape := ⟨3, ![1, 8192, 128]⟩
abbrev S1x1x8192x128 : Shape := ⟨4, ![1, 1, 8192, 128]⟩
abbrev S1x1024x128 : Shape := ⟨3, ![1, 1024, 128]⟩
abbrev S1x128x8192 : Shape := ⟨3, ![1, 128, 8192]⟩
abbrev S1x8x128 : Shape := ⟨3, ![1, 8, 128]⟩
abbrev S256x128 : Shape := ⟨2, ![256, 128]⟩
abbrev S1x1x256 : Shape := ⟨3, ![1, 1, 256]⟩
abbrev S8192x256 : Shape := ⟨2, ![8192, 256]⟩
abbrev S8x256 : Shape := ⟨2, ![8, 256]⟩
abbrev S1x256 : Shape := ⟨2, ![1, 256]⟩
abbrev S256 : Shape := ⟨1, ![256]⟩
abbrev S128x256 : Shape := ⟨2, ![128, 256]⟩
abbrev S32x256 : Shape := ⟨2, ![32, 256]⟩
abbrev S4x8x256 : Shape := ⟨3, ![4, 8, 256]⟩
abbrev S1x128x256 : Shape := ⟨3, ![1, 128, 256]⟩
abbrev S1024x128 : Shape := ⟨2, ![1024, 128]⟩
abbrev S1x1x1024x128 : Shape := ⟨4, ![1, 1, 1024, 128]⟩
abbrev S1024x256 : Shape := ⟨2, ![1024, 256]⟩
abbrev S8x128 : Shape := ⟨2, ![8, 128]⟩
abbrev S64x256 : Shape := ⟨2, ![64, 256]⟩
abbrev S8x8x256 : Shape := ⟨3, ![8, 8, 256]⟩
abbrev S1x1x128 : Shape := ⟨3, ![1, 1, 128]⟩
abbrev S1x128 : Shape := ⟨2, ![1, 128]⟩

abbrev nBuf : Space → Nat
  | .hbm => 12
  | .vmem => 27
  | .smem => 0
  | _ => 0

abbrev bufTy : (tb : Table) → Fin (tcTables nBuf tb) → BufTy
  | .hbm, ⟨0, _⟩ => ⟨S16384x1280, .bf16⟩
  | .hbm, ⟨1, _⟩ => ⟨S2x8x8192, .f32⟩
  | .hbm, ⟨2, _⟩ => ⟨S10x8192x128, .bf16⟩
  | .hbm, ⟨3, _⟩ => ⟨S10x4x8192x128, .bf16⟩
  | .hbm, ⟨4, _⟩ => ⟨S10x1024x128, .f32⟩
  | .hbm, ⟨5, _⟩ => ⟨S10x128x8192, .fp8e4m3⟩
  | .hbm, ⟨6, _⟩ => ⟨S10x8x128, .f32⟩
  | .hbm, ⟨7, _⟩ => ⟨S16384x640, .f32⟩
  | .hbm, ⟨8, _⟩ => ⟨S2x8x640, .f32⟩
  | .hbm, ⟨9, _⟩ => ⟨S81920x128, .bf16⟩
  | .hbm, ⟨10, _⟩ => ⟨S16384x640, .f32⟩
  | .hbm, ⟨11, _⟩ => ⟨S10x1x8192, .f32⟩
  | .local _ .vmem, ⟨0, _⟩ => ⟨S256x256, .bf16⟩
  | .local _ .vmem, ⟨1, _⟩ => ⟨S256x256, .bf16⟩
  | .local _ .vmem, ⟨2, _⟩ => ⟨S1x8x256, .f32⟩
  | .local _ .vmem, ⟨3, _⟩ => ⟨S1x8x256, .f32⟩
  | .local _ .vmem, ⟨4, _⟩ => ⟨S1x8192x128, .bf16⟩
  | .local _ .vmem, ⟨5, _⟩ => ⟨S1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x1024x128, .f32⟩
  | .local _ .vmem, ⟨9, _⟩ => ⟨S1x1024x128, .f32⟩
  | .local _ .vmem, ⟨10, _⟩ => ⟨S1x128x8192, .fp8e4m3⟩
  | .local _ .vmem, ⟨11, _⟩ => ⟨S1x128x8192, .fp8e4m3⟩
  | .local _ .vmem, ⟨12, _⟩ => ⟨S1x8x128, .f32⟩
  | .local _ .vmem, ⟨13, _⟩ => ⟨S1x8x128, .f32⟩
  | .local _ .vmem, ⟨14, _⟩ => ⟨S256x128, .f32⟩
  | .local _ .vmem, ⟨15, _⟩ => ⟨S256x128, .f32⟩
  | .local _ .vmem, ⟨16, _⟩ => ⟨S1x8x128, .f32⟩
  | .local _ .vmem, ⟨17, _⟩ => ⟨S1x8x128, .f32⟩
  | .local _ .vmem, ⟨18, _⟩ => ⟨S256x128, .bf16⟩
  | .local _ .vmem, ⟨19, _⟩ => ⟨S256x128, .bf16⟩
  | .local _ .vmem, ⟨20, _⟩ => ⟨S256x128, .f32⟩
  | .local _ .vmem, ⟨21, _⟩ => ⟨S256x128, .f32⟩
  | .local _ .vmem, ⟨22, _⟩ => ⟨S1x1x256, .f32⟩
  | .local _ .vmem, ⟨23, _⟩ => ⟨S1x1x256, .f32⟩
  | .local _ .vmem, ⟨24, _⟩ => ⟨S8192x256, .f32⟩
  | .local _ .vmem, ⟨25, _⟩ => ⟨S8x256, .f32⟩
  | .local _ .vmem, ⟨26, _⟩ => ⟨S8192x256, .fp8e4m3⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![321], ![false]⟩

def cc0_transform_0 (i : grid0.Coords) : Fin 2 → Nat :=
  let arg0 : BitVec 32 := BitVec.ofNat 32 (i 0).val
  let c319_i32 : BitVec 32 := 319#32
  let v0 : BitVec 32 := Scalar.minsi arg0 c319_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let v18 : BitVec 32 := Scalar.divsi v17 c5_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c5_i32 c0_i32_6
  let v25 : BitVec 32 := Scalar.extui v24
  let c0_i32_7 : BitVec 32 := 0#32
  let v26 : BitVec 1 := Scalar.cmpi .slt c5_i32 c0_i32_7
  let v27 : BitVec 32 := Scalar.extui v26
  let v28 : BitVec 32 := Scalar.subi v25 v27
  let v29 : BitVec 1 := Scalar.cmpi .ne v23 v28
  let v30 : BitVec 32 := Scalar.remsi v17 c5_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c32_i32_10 : BitVec 32 := 32#32
  let v35 : BitVec 32 := Scalar.divsi v0 c32_i32_10
  let c0_i32_11 : BitVec 32 := 0#32
  let v36 : BitVec 1 := Scalar.cmpi .sgt v0 c0_i32_11
  let v37 : BitVec 32 := Scalar.extui v36
  let c0_i32_12 : BitVec 32 := 0#32
  let v38 : BitVec 1 := Scalar.cmpi .slt v0 c0_i32_12
  let v39 : BitVec 32 := Scalar.extui v38
  let v40 : BitVec 32 := Scalar.subi v37 v39
  let c0_i32_13 : BitVec 32 := 0#32
  let v41 : BitVec 1 := Scalar.cmpi .sgt c32_i32_10 c0_i32_13
  let v42 : BitVec 32 := Scalar.extui v41
  let c0_i32_14 : BitVec 32 := 0#32
  let v43 : BitVec 1 := Scalar.cmpi .slt c32_i32_10 c0_i32_14
  let v44 : BitVec 32 := Scalar.extui v43
  let v45 : BitVec 32 := Scalar.subi v42 v44
  let v46 : BitVec 1 := Scalar.cmpi .ne v40 v45
  let v47 : BitVec 32 := Scalar.remsi v0 c32_i32_10
  let c0_i32_15 : BitVec 32 := 0#32
  let v48 : BitVec 1 := Scalar.cmpi .ne v47 c0_i32_15
  let v49 : BitVec 1 := Scalar.andi v46 v48
  let c1_i32_16 : BitVec 32 := 1#32
  let v50 : BitVec 32 := Scalar.subi v35 c1_i32_16
  let v51 : BitVec 32 := Scalar.select v49 v50 v35
  let c5_i32_17 : BitVec 32 := 5#32
  let c0_i32_18 : BitVec 32 := 0#32
  let v52 : BitVec 1 := Scalar.cmpi .eq c5_i32_17 c0_i32_18
  let c1_i32_19 : BitVec 32 := 1#32
  let v53 : BitVec 32 := Scalar.select v52 c1_i32_19 c5_i32_17
  let v54 : BitVec 32 := Scalar.remsi v51 v53
  let c0_i32_20 : BitVec 32 := 0#32
  let v55 : BitVec 1 := Scalar.cmpi .ne v54 c0_i32_20
  let c0_i32_21 : BitVec 32 := 0#32
  let v56 : BitVec 1 := Scalar.cmpi .slt v54 c0_i32_21
  let c0_i32_22 : BitVec 32 := 0#32
  let v57 : BitVec 1 := Scalar.cmpi .slt v53 c0_i32_22
  let v58 : BitVec 1 := Scalar.xori v56 v57
  let v59 : BitVec 1 := Scalar.andi v58 v55
  let v60 : BitVec 32 := Scalar.addi v54 v53
  let v61 : BitVec 32 := Scalar.select v59 v60 v54
  let c32_i32_23 : BitVec 32 := 32#32
  let c0_i32_24 : BitVec 32 := 0#32
  let v62 : BitVec 1 := Scalar.cmpi .eq c32_i32_23 c0_i32_24
  let c1_i32_25 : BitVec 32 := 1#32
  let v63 : BitVec 32 := Scalar.select v62 c1_i32_25 c32_i32_23
  let v64 : BitVec 32 := Scalar.remsi v0 v63
  let c0_i32_26 : BitVec 32 := 0#32
  let v65 : BitVec 1 := Scalar.cmpi .ne v64 c0_i32_26
  let c0_i32_27 : BitVec 32 := 0#32
  let v66 : BitVec 1 := Scalar.cmpi .slt v64 c0_i32_27
  let c0_i32_28 : BitVec 32 := 0#32
  let v67 : BitVec 1 := Scalar.cmpi .slt v63 c0_i32_28
  let v68 : BitVec 1 := Scalar.xori v66 v67
  let v69 : BitVec 1 := Scalar.andi v68 v65
  let v70 : BitVec 32 := Scalar.addi v64 v63
  let v71 : BitVec 32 := Scalar.select v69 v70 v64
  let c32_i32_29 : BitVec 32 := 32#32
  let v72 : BitVec 32 := Scalar.muli v34 c32_i32_29
  let v73 : BitVec 32 := Scalar.addi v72 v71
  let c0_i32_30 : BitVec 32 := 0#32
  ![v73.toNat, v61.toNat]

def cc0_transform_1 (i : grid0.Coords) : Fin 3 → Nat :=
  let arg0 : BitVec 32 := BitVec.ofNat 32 (i 0).val
  let c319_i32 : BitVec 32 := 319#32
  let v0 : BitVec 32 := Scalar.minsi arg0 c319_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let v18 : BitVec 32 := Scalar.divsi v17 c5_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c5_i32 c0_i32_6
  let v25 : BitVec 32 := Scalar.extui v24
  let c0_i32_7 : BitVec 32 := 0#32
  let v26 : BitVec 1 := Scalar.cmpi .slt c5_i32 c0_i32_7
  let v27 : BitVec 32 := Scalar.extui v26
  let v28 : BitVec 32 := Scalar.subi v25 v27
  let v29 : BitVec 1 := Scalar.cmpi .ne v23 v28
  let v30 : BitVec 32 := Scalar.remsi v17 c5_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c32_i32_10 : BitVec 32 := 32#32
  let v35 : BitVec 32 := Scalar.divsi v0 c32_i32_10
  let c0_i32_11 : BitVec 32 := 0#32
  let v36 : BitVec 1 := Scalar.cmpi .sgt v0 c0_i32_11
  let v37 : BitVec 32 := Scalar.extui v36
  let c0_i32_12 : BitVec 32 := 0#32
  let v38 : BitVec 1 := Scalar.cmpi .slt v0 c0_i32_12
  let v39 : BitVec 32 := Scalar.extui v38
  let v40 : BitVec 32 := Scalar.subi v37 v39
  let c0_i32_13 : BitVec 32 := 0#32
  let v41 : BitVec 1 := Scalar.cmpi .sgt c32_i32_10 c0_i32_13
  let v42 : BitVec 32 := Scalar.extui v41
  let c0_i32_14 : BitVec 32 := 0#32
  let v43 : BitVec 1 := Scalar.cmpi .slt c32_i32_10 c0_i32_14
  let v44 : BitVec 32 := Scalar.extui v43
  let v45 : BitVec 32 := Scalar.subi v42 v44
  let v46 : BitVec 1 := Scalar.cmpi .ne v40 v45
  let v47 : BitVec 32 := Scalar.remsi v0 c32_i32_10
  let c0_i32_15 : BitVec 32 := 0#32
  let v48 : BitVec 1 := Scalar.cmpi .ne v47 c0_i32_15
  let v49 : BitVec 1 := Scalar.andi v46 v48
  let c1_i32_16 : BitVec 32 := 1#32
  let v50 : BitVec 32 := Scalar.subi v35 c1_i32_16
  let v51 : BitVec 32 := Scalar.select v49 v50 v35
  let c5_i32_17 : BitVec 32 := 5#32
  let c0_i32_18 : BitVec 32 := 0#32
  let v52 : BitVec 1 := Scalar.cmpi .eq c5_i32_17 c0_i32_18
  let c1_i32_19 : BitVec 32 := 1#32
  let v53 : BitVec 32 := Scalar.select v52 c1_i32_19 c5_i32_17
  let v54 : BitVec 32 := Scalar.remsi v51 v53
  let c0_i32_20 : BitVec 32 := 0#32
  let v55 : BitVec 1 := Scalar.cmpi .ne v54 c0_i32_20
  let c0_i32_21 : BitVec 32 := 0#32
  let v56 : BitVec 1 := Scalar.cmpi .slt v54 c0_i32_21
  let c0_i32_22 : BitVec 32 := 0#32
  let v57 : BitVec 1 := Scalar.cmpi .slt v53 c0_i32_22
  let v58 : BitVec 1 := Scalar.xori v56 v57
  let v59 : BitVec 1 := Scalar.andi v58 v55
  let v60 : BitVec 32 := Scalar.addi v54 v53
  let v61 : BitVec 32 := Scalar.select v59 v60 v54
  let c32_i32_23 : BitVec 32 := 32#32
  let c0_i32_24 : BitVec 32 := 0#32
  let v62 : BitVec 1 := Scalar.cmpi .eq c32_i32_23 c0_i32_24
  let c1_i32_25 : BitVec 32 := 1#32
  let v63 : BitVec 32 := Scalar.select v62 c1_i32_25 c32_i32_23
  let v64 : BitVec 32 := Scalar.remsi v0 v63
  let c0_i32_26 : BitVec 32 := 0#32
  let v65 : BitVec 1 := Scalar.cmpi .ne v64 c0_i32_26
  let c0_i32_27 : BitVec 32 := 0#32
  let v66 : BitVec 1 := Scalar.cmpi .slt v64 c0_i32_27
  let c0_i32_28 : BitVec 32 := 0#32
  let v67 : BitVec 1 := Scalar.cmpi .slt v63 c0_i32_28
  let v68 : BitVec 1 := Scalar.xori v66 v67
  let v69 : BitVec 1 := Scalar.andi v68 v65
  let v70 : BitVec 32 := Scalar.addi v64 v63
  let v71 : BitVec 32 := Scalar.select v69 v70 v64
  let c319_i32_29 : BitVec 32 := 319#32
  let v72 : BitVec 32 := Scalar.minsi arg0 c319_i32_29
  let c32_i32_30 : BitVec 32 := 32#32
  let v73 : BitVec 32 := Scalar.divsi v72 c32_i32_30
  let c0_i32_31 : BitVec 32 := 0#32
  let v74 : BitVec 1 := Scalar.cmpi .sgt v72 c0_i32_31
  let v75 : BitVec 32 := Scalar.extui v74
  let c0_i32_32 : BitVec 32 := 0#32
  let v76 : BitVec 1 := Scalar.cmpi .slt v72 c0_i32_32
  let v77 : BitVec 32 := Scalar.extui v76
  let v78 : BitVec 32 := Scalar.subi v75 v77
  let c0_i32_33 : BitVec 32 := 0#32
  let v79 : BitVec 1 := Scalar.cmpi .sgt c32_i32_30 c0_i32_33
  let v80 : BitVec 32 := Scalar.extui v79
  let c0_i32_34 : BitVec 32 := 0#32
  let v81 : BitVec 1 := Scalar.cmpi .slt c32_i32_30 c0_i32_34
  let v82 : BitVec 32 := Scalar.extui v81
  let v83 : BitVec 32 := Scalar.subi v80 v82
  let v84 : BitVec 1 := Scalar.cmpi .ne v78 v83
  let v85 : BitVec 32 := Scalar.remsi v72 c32_i32_30
  let c0_i32_35 : BitVec 32 := 0#32
  let v86 : BitVec 1 := Scalar.cmpi .ne v85 c0_i32_35
  let v87 : BitVec 1 := Scalar.andi v84 v86
  let c1_i32_36 : BitVec 32 := 1#32
  let v88 : BitVec 32 := Scalar.subi v73 c1_i32_36
  let v89 : BitVec 32 := Scalar.select v87 v88 v73
  let c5_i32_37 : BitVec 32 := 5#32
  let v90 : BitVec 32 := Scalar.divsi v89 c5_i32_37
  let c0_i32_38 : BitVec 32 := 0#32
  let v91 : BitVec 1 := Scalar.cmpi .sgt v89 c0_i32_38
  let v92 : BitVec 32 := Scalar.extui v91
  let c0_i32_39 : BitVec 32 := 0#32
  let v93 : BitVec 1 := Scalar.cmpi .slt v89 c0_i32_39
  let v94 : BitVec 32 := Scalar.extui v93
  let v95 : BitVec 32 := Scalar.subi v92 v94
  let c0_i32_40 : BitVec 32 := 0#32
  let v96 : BitVec 1 := Scalar.cmpi .sgt c5_i32_37 c0_i32_40
  let v97 : BitVec 32 := Scalar.extui v96
  let c0_i32_41 : BitVec 32 := 0#32
  let v98 : BitVec 1 := Scalar.cmpi .slt c5_i32_37 c0_i32_41
  let v99 : BitVec 32 := Scalar.extui v98
  let v100 : BitVec 32 := Scalar.subi v97 v99
  let v101 : BitVec 1 := Scalar.cmpi .ne v95 v100
  let v102 : BitVec 32 := Scalar.remsi v89 c5_i32_37
  let c0_i32_42 : BitVec 32 := 0#32
  let v103 : BitVec 1 := Scalar.cmpi .ne v102 c0_i32_42
  let v104 : BitVec 1 := Scalar.andi v101 v103
  let c1_i32_43 : BitVec 32 := 1#32
  let v105 : BitVec 32 := Scalar.subi v90 c1_i32_43
  let v106 : BitVec 32 := Scalar.select v104 v105 v90
  let c32_i32_44 : BitVec 32 := 32#32
  let v107 : BitVec 32 := Scalar.divsi v72 c32_i32_44
  let c0_i32_45 : BitVec 32 := 0#32
  let v108 : BitVec 1 := Scalar.cmpi .sgt v72 c0_i32_45
  let v109 : BitVec 32 := Scalar.extui v108
  let c0_i32_46 : BitVec 32 := 0#32
  let v110 : BitVec 1 := Scalar.cmpi .slt v72 c0_i32_46
  let v111 : BitVec 32 := Scalar.extui v110
  let v112 : BitVec 32 := Scalar.subi v109 v111
  let c0_i32_47 : BitVec 32 := 0#32
  let v113 : BitVec 1 := Scalar.cmpi .sgt c32_i32_44 c0_i32_47
  let v114 : BitVec 32 := Scalar.extui v113
  let c0_i32_48 : BitVec 32 := 0#32
  let v115 : BitVec 1 := Scalar.cmpi .slt c32_i32_44 c0_i32_48
  let v116 : BitVec 32 := Scalar.extui v115
  let v117 : BitVec 32 := Scalar.subi v114 v116
  let v118 : BitVec 1 := Scalar.cmpi .ne v112 v117
  let v119 : BitVec 32 := Scalar.remsi v72 c32_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c5_i32_51 : BitVec 32 := 5#32
  let c0_i32_52 : BitVec 32 := 0#32
  let v124 : BitVec 1 := Scalar.cmpi .eq c5_i32_51 c0_i32_52
  let c1_i32_53 : BitVec 32 := 1#32
  let v125 : BitVec 32 := Scalar.select v124 c1_i32_53 c5_i32_51
  let v126 : BitVec 32 := Scalar.remsi v123 v125
  let c0_i32_54 : BitVec 32 := 0#32
  let v127 : BitVec 1 := Scalar.cmpi .ne v126 c0_i32_54
  let c0_i32_55 : BitVec 32 := 0#32
  let v128 : BitVec 1 := Scalar.cmpi .slt v126 c0_i32_55
  let c0_i32_56 : BitVec 32 := 0#32
  let v129 : BitVec 1 := Scalar.cmpi .slt v125 c0_i32_56
  let v130 : BitVec 1 := Scalar.xori v128 v129
  let v131 : BitVec 1 := Scalar.andi v130 v127
  let v132 : BitVec 32 := Scalar.addi v126 v125
  let v133 : BitVec 32 := Scalar.select v131 v132 v126
  let c32_i32_57 : BitVec 32 := 32#32
  let c0_i32_58 : BitVec 32 := 0#32
  let v134 : BitVec 1 := Scalar.cmpi .eq c32_i32_57 c0_i32_58
  let c1_i32_59 : BitVec 32 := 1#32
  let v135 : BitVec 32 := Scalar.select v134 c1_i32_59 c32_i32_57
  let v136 : BitVec 32 := Scalar.remsi v72 v135
  let c0_i32_60 : BitVec 32 := 0#32
  let v137 : BitVec 1 := Scalar.cmpi .ne v136 c0_i32_60
  let c0_i32_61 : BitVec 32 := 0#32
  let v138 : BitVec 1 := Scalar.cmpi .slt v136 c0_i32_61
  let c0_i32_62 : BitVec 32 := 0#32
  let v139 : BitVec 1 := Scalar.cmpi .slt v135 c0_i32_62
  let v140 : BitVec 1 := Scalar.xori v138 v139
  let v141 : BitVec 1 := Scalar.andi v140 v137
  let v142 : BitVec 32 := Scalar.addi v136 v135
  let v143 : BitVec 32 := Scalar.select v141 v142 v136
  let c0_i32_63 : BitVec 32 := 0#32
  let c0_i32_64 : BitVec 32 := 0#32
  ![v34.toNat, c0_i32_63.toNat, v143.toNat]

def cc0_transform_2 (i : grid0.Coords) : Fin 3 → Nat :=
  let arg0 : BitVec 32 := BitVec.ofNat 32 (i 0).val
  let c319_i32 : BitVec 32 := 319#32
  let v0 : BitVec 32 := Scalar.minsi arg0 c319_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 4 → Nat :=
  let arg0 : BitVec 32 := BitVec.ofNat 32 (i 0).val
  let c319_i32 : BitVec 32 := 319#32
  let v0 : BitVec 32 := Scalar.minsi arg0 c319_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c319_i32_4 : BitVec 32 := 319#32
  let v18 : BitVec 32 := Scalar.minsi arg0 c319_i32_4
  let c32_i32_5 : BitVec 32 := 32#32
  let c0_i32_6 : BitVec 32 := 0#32
  let v19 : BitVec 1 := Scalar.cmpi .eq c32_i32_5 c0_i32_6
  let c1_i32_7 : BitVec 32 := 1#32
  let v20 : BitVec 32 := Scalar.select v19 c1_i32_7 c32_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.divsi v28 c8_i32
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c0_i32_13 : BitVec 32 := 0#32
  let v35 : BitVec 1 := Scalar.cmpi .sgt c8_i32 c0_i32_13
  let v36 : BitVec 32 := Scalar.extui v35
  let c0_i32_14 : BitVec 32 := 0#32
  let v37 : BitVec 1 := Scalar.cmpi .slt c8_i32 c0_i32_14
  let v38 : BitVec 32 := Scalar.extui v37
  let v39 : BitVec 32 := Scalar.subi v36 v38
  let v40 : BitVec 1 := Scalar.cmpi .ne v34 v39
  let v41 : BitVec 32 := Scalar.remsi v28 c8_i32
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c0_i32_17 : BitVec 32 := 0#32
  let c0_i32_18 : BitVec 32 := 0#32
  let c0_i32_19 : BitVec 32 := 0#32
  ![v17.toNat, v45.toNat, c0_i32_17.toNat, c0_i32_18.toNat]

def cc0_transform_4 (i : grid0.Coords) : Fin 3 → Nat :=
  let arg0 : BitVec 32 := BitVec.ofNat 32 (i 0).val
  let c319_i32 : BitVec 32 := 319#32
  let v0 : BitVec 32 := Scalar.minsi arg0 c319_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c5_i32 : BitVec 32 := 5#32
  let v19 : BitVec 32 := Scalar.divsi v18 c5_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c5_i32 c0_i32_8
  let v26 : BitVec 32 := Scalar.extui v25
  let c0_i32_9 : BitVec 32 := 0#32
  let v27 : BitVec 1 := Scalar.cmpi .slt c5_i32 c0_i32_9
  let v28 : BitVec 32 := Scalar.extui v27
  let v29 : BitVec 32 := Scalar.subi v26 v28
  let v30 : BitVec 1 := Scalar.cmpi .ne v24 v29
  let v31 : BitVec 32 := Scalar.remsi v18 c5_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c32_i32_12 : BitVec 32 := 32#32
  let v36 : BitVec 32 := Scalar.divsi v1 c32_i32_12
  let c0_i32_13 : BitVec 32 := 0#32
  let v37 : BitVec 1 := Scalar.cmpi .sgt v1 c0_i32_13
  let v38 : BitVec 32 := Scalar.extui v37
  let c0_i32_14 : BitVec 32 := 0#32
  let v39 : BitVec 1 := Scalar.cmpi .slt v1 c0_i32_14
  let v40 : BitVec 32 := Scalar.extui v39
  let v41 : BitVec 32 := Scalar.subi v38 v40
  let c0_i32_15 : BitVec 32 := 0#32
  let v42 : BitVec 1 := Scalar.cmpi .sgt c32_i32_12 c0_i32_15
  let v43 : BitVec 32 := Scalar.extui v42
  let c0_i32_16 : BitVec 32 := 0#32
  let v44 : BitVec 1 := Scalar.cmpi .slt c32_i32_12 c0_i32_16
  let v45 : BitVec 32 := Scalar.extui v44
  let v46 : BitVec 32 := Scalar.subi v43 v45
  let v47 : BitVec 1 := Scalar.cmpi .ne v41 v46
  let v48 : BitVec 32 := Scalar.remsi v1 c32_i32_12
  let c0_i32_17 : BitVec 32 := 0#32
  let v49 : BitVec 1 := Scalar.cmpi .ne v48 c0_i32_17
  let v50 : BitVec 1 := Scalar.andi v47 v49
  let c1_i32_18 : BitVec 32 := 1#32
  let v51 : BitVec 32 := Scalar.subi v36 c1_i32_18
  let v52 : BitVec 32 := Scalar.select v50 v51 v36
  let c5_i32_19 : BitVec 32 := 5#32
  let c0_i32_20 : BitVec 32 := 0#32
  let v53 : BitVec 1 := Scalar.cmpi .eq c5_i32_19 c0_i32_20
  let c1_i32_21 : BitVec 32 := 1#32
  let v54 : BitVec 32 := Scalar.select v53 c1_i32_21 c5_i32_19
  let v55 : BitVec 32 := Scalar.remsi v52 v54
  let c0_i32_22 : BitVec 32 := 0#32
  let v56 : BitVec 1 := Scalar.cmpi .ne v55 c0_i32_22
  let c0_i32_23 : BitVec 32 := 0#32
  let v57 : BitVec 1 := Scalar.cmpi .slt v55 c0_i32_23
  let c0_i32_24 : BitVec 32 := 0#32
  let v58 : BitVec 1 := Scalar.cmpi .slt v54 c0_i32_24
  let v59 : BitVec 1 := Scalar.xori v57 v58
  let v60 : BitVec 1 := Scalar.andi v59 v56
  let v61 : BitVec 32 := Scalar.addi v55 v54
  let v62 : BitVec 32 := Scalar.select v60 v61 v55
  let c32_i32_25 : BitVec 32 := 32#32
  let c0_i32_26 : BitVec 32 := 0#32
  let v63 : BitVec 1 := Scalar.cmpi .eq c32_i32_25 c0_i32_26
  let c1_i32_27 : BitVec 32 := 1#32
  let v64 : BitVec 32 := Scalar.select v63 c1_i32_27 c32_i32_25
  let v65 : BitVec 32 := Scalar.remsi v1 v64
  let c0_i32_28 : BitVec 32 := 0#32
  let v66 : BitVec 1 := Scalar.cmpi .ne v65 c0_i32_28
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let v70 : BitVec 1 := Scalar.andi v69 v66
  let v71 : BitVec 32 := Scalar.addi v65 v64
  let v72 : BitVec 32 := Scalar.select v70 v71 v65
  let c32_i32_31 : BitVec 32 := 32#32
  let v73 : BitVec 32 := Scalar.muli v35 c32_i32_31
  let v74 : BitVec 32 := Scalar.addi v73 v72
  let c0_i32_32 : BitVec 32 := 0#32
  ![v74.toNat, v62.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c5_i32 : BitVec 32 := 5#32
  let v19 : BitVec 32 := Scalar.divsi v18 c5_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c5_i32 c0_i32_8
  let v26 : BitVec 32 := Scalar.extui v25
  let c0_i32_9 : BitVec 32 := 0#32
  let v27 : BitVec 1 := Scalar.cmpi .slt c5_i32 c0_i32_9
  let v28 : BitVec 32 := Scalar.extui v27
  let v29 : BitVec 32 := Scalar.subi v26 v28
  let v30 : BitVec 1 := Scalar.cmpi .ne v24 v29
  let v31 : BitVec 32 := Scalar.remsi v18 c5_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c32_i32_12 : BitVec 32 := 32#32
  let v36 : BitVec 32 := Scalar.divsi v1 c32_i32_12
  let c0_i32_13 : BitVec 32 := 0#32
  let v37 : BitVec 1 := Scalar.cmpi .sgt v1 c0_i32_13
  let v38 : BitVec 32 := Scalar.extui v37
  let c0_i32_14 : BitVec 32 := 0#32
  let v39 : BitVec 1 := Scalar.cmpi .slt v1 c0_i32_14
  let v40 : BitVec 32 := Scalar.extui v39
  let v41 : BitVec 32 := Scalar.subi v38 v40
  let c0_i32_15 : BitVec 32 := 0#32
  let v42 : BitVec 1 := Scalar.cmpi .sgt c32_i32_12 c0_i32_15
  let v43 : BitVec 32 := Scalar.extui v42
  let c0_i32_16 : BitVec 32 := 0#32
  let v44 : BitVec 1 := Scalar.cmpi .slt c32_i32_12 c0_i32_16
  let v45 : BitVec 32 := Scalar.extui v44
  let v46 : BitVec 32 := Scalar.subi v43 v45
  let v47 : BitVec 1 := Scalar.cmpi .ne v41 v46
  let v48 : BitVec 32 := Scalar.remsi v1 c32_i32_12
  let c0_i32_17 : BitVec 32 := 0#32
  let v49 : BitVec 1 := Scalar.cmpi .ne v48 c0_i32_17
  let v50 : BitVec 1 := Scalar.andi v47 v49
  let c1_i32_18 : BitVec 32 := 1#32
  let v51 : BitVec 32 := Scalar.subi v36 c1_i32_18
  let v52 : BitVec 32 := Scalar.select v50 v51 v36
  let c5_i32_19 : BitVec 32 := 5#32
  let c0_i32_20 : BitVec 32 := 0#32
  let v53 : BitVec 1 := Scalar.cmpi .eq c5_i32_19 c0_i32_20
  let c1_i32_21 : BitVec 32 := 1#32
  let v54 : BitVec 32 := Scalar.select v53 c1_i32_21 c5_i32_19
  let v55 : BitVec 32 := Scalar.remsi v52 v54
  let c0_i32_22 : BitVec 32 := 0#32
  let v56 : BitVec 1 := Scalar.cmpi .ne v55 c0_i32_22
  let c0_i32_23 : BitVec 32 := 0#32
  let v57 : BitVec 1 := Scalar.cmpi .slt v55 c0_i32_23
  let c0_i32_24 : BitVec 32 := 0#32
  let v58 : BitVec 1 := Scalar.cmpi .slt v54 c0_i32_24
  let v59 : BitVec 1 := Scalar.xori v57 v58
  let v60 : BitVec 1 := Scalar.andi v59 v56
  let v61 : BitVec 32 := Scalar.addi v55 v54
  let v62 : BitVec 32 := Scalar.select v60 v61 v55
  let c32_i32_25 : BitVec 32 := 32#32
  let c0_i32_26 : BitVec 32 := 0#32
  let v63 : BitVec 1 := Scalar.cmpi .eq c32_i32_25 c0_i32_26
  let c1_i32_27 : BitVec 32 := 1#32
  let v64 : BitVec 32 := Scalar.select v63 c1_i32_27 c32_i32_25
  let v65 : BitVec 32 := Scalar.remsi v1 v64
  let c0_i32_28 : BitVec 32 := 0#32
  let v66 : BitVec 1 := Scalar.cmpi .ne v65 c0_i32_28
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let v70 : BitVec 1 := Scalar.andi v69 v66
  let v71 : BitVec 32 := Scalar.addi v65 v64
  let v72 : BitVec 32 := Scalar.select v70 v71 v65
  let c1_i32_31 : BitVec 32 := 1#32
  let v73 : BitVec 32 := Scalar.subi arg0 c1_i32_31
  let c0_i32_32 : BitVec 32 := 0#32
  let v74 : BitVec 32 := Scalar.maxsi v73 c0_i32_32
  let c32_i32_33 : BitVec 32 := 32#32
  let v75 : BitVec 32 := Scalar.divsi v74 c32_i32_33
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c0_i32_36 : BitVec 32 := 0#32
  let v81 : BitVec 1 := Scalar.cmpi .sgt c32_i32_33 c0_i32_36
  let v82 : BitVec 32 := Scalar.extui v81
  let c0_i32_37 : BitVec 32 := 0#32
  let v83 : BitVec 1 := Scalar.cmpi .slt c32_i32_33 c0_i32_37
  let v84 : BitVec 32 := Scalar.extui v83
  let v85 : BitVec 32 := Scalar.subi v82 v84
  let v86 : BitVec 1 := Scalar.cmpi .ne v80 v85
  let v87 : BitVec 32 := Scalar.remsi v74 c32_i32_33
  let c0_i32_38 : BitVec 32 := 0#32
  let v88 : BitVec 1 := Scalar.cmpi .ne v87 c0_i32_38
  let v89 : BitVec 1 := Scalar.andi v86 v88
  let c1_i32_39 : BitVec 32 := 1#32
  let v90 : BitVec 32 := Scalar.subi v75 c1_i32_39
  let v91 : BitVec 32 := Scalar.select v89 v90 v75
  let c5_i32_40 : BitVec 32 := 5#32
  let v92 : BitVec 32 := Scalar.divsi v91 c5_i32_40
  let c0_i32_41 : BitVec 32 := 0#32
  let v93 : BitVec 1 := Scalar.cmpi .sgt v91 c0_i32_41
  let v94 : BitVec 32 := Scalar.extui v93
  let c0_i32_42 : BitVec 32 := 0#32
  let v95 : BitVec 1 := Scalar.cmpi .slt v91 c0_i32_42
  let v96 : BitVec 32 := Scalar.extui v95
  let v97 : BitVec 32 := Scalar.subi v94 v96
  let c0_i32_43 : BitVec 32 := 0#32
  let v98 : BitVec 1 := Scalar.cmpi .sgt c5_i32_40 c0_i32_43
  let v99 : BitVec 32 := Scalar.extui v98
  let c0_i32_44 : BitVec 32 := 0#32
  let v100 : BitVec 1 := Scalar.cmpi .slt c5_i32_40 c0_i32_44
  let v101 : BitVec 32 := Scalar.extui v100
  let v102 : BitVec 32 := Scalar.subi v99 v101
  let v103 : BitVec 1 := Scalar.cmpi .ne v97 v102
  let v104 : BitVec 32 := Scalar.remsi v91 c5_i32_40
  let c0_i32_45 : BitVec 32 := 0#32
  let v105 : BitVec 1 := Scalar.cmpi .ne v104 c0_i32_45
  let v106 : BitVec 1 := Scalar.andi v103 v105
  let c1_i32_46 : BitVec 32 := 1#32
  let v107 : BitVec 32 := Scalar.subi v92 c1_i32_46
  let v108 : BitVec 32 := Scalar.select v106 v107 v92
  let c32_i32_47 : BitVec 32 := 32#32
  let v109 : BitVec 32 := Scalar.divsi v74 c32_i32_47
  let c0_i32_48 : BitVec 32 := 0#32
  let v110 : BitVec 1 := Scalar.cmpi .sgt v74 c0_i32_48
  let v111 : BitVec 32 := Scalar.extui v110
  let c0_i32_49 : BitVec 32 := 0#32
  let v112 : BitVec 1 := Scalar.cmpi .slt v74 c0_i32_49
  let v113 : BitVec 32 := Scalar.extui v112
  let v114 : BitVec 32 := Scalar.subi v111 v113
  let c0_i32_50 : BitVec 32 := 0#32
  let v115 : BitVec 1 := Scalar.cmpi .sgt c32_i32_47 c0_i32_50
  let v116 : BitVec 32 := Scalar.extui v115
  let c0_i32_51 : BitVec 32 := 0#32
  let v117 : BitVec 1 := Scalar.cmpi .slt c32_i32_47 c0_i32_51
  let v118 : BitVec 32 := Scalar.extui v117
  let v119 : BitVec 32 := Scalar.subi v116 v118
  let v120 : BitVec 1 := Scalar.cmpi .ne v114 v119
  let v121 : BitVec 32 := Scalar.remsi v74 c32_i32_47
  let c0_i32_52 : BitVec 32 := 0#32
  let v122 : BitVec 1 := Scalar.cmpi .ne v121 c0_i32_52
  let v123 : BitVec 1 := Scalar.andi v120 v122
  let c1_i32_53 : BitVec 32 := 1#32
  let v124 : BitVec 32 := Scalar.subi v109 c1_i32_53
  let v125 : BitVec 32 := Scalar.select v123 v124 v109
  let c5_i32_54 : BitVec 32 := 5#32
  let c0_i32_55 : BitVec 32 := 0#32
  let v126 : BitVec 1 := Scalar.cmpi .eq c5_i32_54 c0_i32_55
  let c1_i32_56 : BitVec 32 := 1#32
  let v127 : BitVec 32 := Scalar.select v126 c1_i32_56 c5_i32_54
  let v128 : BitVec 32 := Scalar.remsi v125 v127
  let c0_i32_57 : BitVec 32 := 0#32
  let v129 : BitVec 1 := Scalar.cmpi .ne v128 c0_i32_57
  let c0_i32_58 : BitVec 32 := 0#32
  let v130 : BitVec 1 := Scalar.cmpi .slt v128 c0_i32_58
  let c0_i32_59 : BitVec 32 := 0#32
  let v131 : BitVec 1 := Scalar.cmpi .slt v127 c0_i32_59
  let v132 : BitVec 1 := Scalar.xori v130 v131
  let v133 : BitVec 1 := Scalar.andi v132 v129
  let v134 : BitVec 32 := Scalar.addi v128 v127
  let v135 : BitVec 32 := Scalar.select v133 v134 v128
  let c32_i32_60 : BitVec 32 := 32#32
  let c0_i32_61 : BitVec 32 := 0#32
  let v136 : BitVec 1 := Scalar.cmpi .eq c32_i32_60 c0_i32_61
  let c1_i32_62 : BitVec 32 := 1#32
  let v137 : BitVec 32 := Scalar.select v136 c1_i32_62 c32_i32_60
  let v138 : BitVec 32 := Scalar.remsi v74 v137
  let c0_i32_63 : BitVec 32 := 0#32
  let v139 : BitVec 1 := Scalar.cmpi .ne v138 c0_i32_63
  let c0_i32_64 : BitVec 32 := 0#32
  let v140 : BitVec 1 := Scalar.cmpi .slt v138 c0_i32_64
  let c0_i32_65 : BitVec 32 := 0#32
  let v141 : BitVec 1 := Scalar.cmpi .slt v137 c0_i32_65
  let v142 : BitVec 1 := Scalar.xori v140 v141
  let v143 : BitVec 1 := Scalar.andi v142 v139
  let v144 : BitVec 32 := Scalar.addi v138 v137
  let v145 : BitVec 32 := Scalar.select v143 v144 v138
  let c0_i32_66 : BitVec 32 := 0#32
  let c0_i32_67 : BitVec 32 := 0#32
  ![v35.toNat, c0_i32_66.toNat, v135.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c5_i32 : BitVec 32 := 5#32
  let v19 : BitVec 32 := Scalar.divsi v18 c5_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c5_i32 c0_i32_8
  let v26 : BitVec 32 := Scalar.extui v25
  let c0_i32_9 : BitVec 32 := 0#32
  let v27 : BitVec 1 := Scalar.cmpi .slt c5_i32 c0_i32_9
  let v28 : BitVec 32 := Scalar.extui v27
  let v29 : BitVec 32 := Scalar.subi v26 v28
  let v30 : BitVec 1 := Scalar.cmpi .ne v24 v29
  let v31 : BitVec 32 := Scalar.remsi v18 c5_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c32_i32_12 : BitVec 32 := 32#32
  let v36 : BitVec 32 := Scalar.divsi v1 c32_i32_12
  let c0_i32_13 : BitVec 32 := 0#32
  let v37 : BitVec 1 := Scalar.cmpi .sgt v1 c0_i32_13
  let v38 : BitVec 32 := Scalar.extui v37
  let c0_i32_14 : BitVec 32 := 0#32
  let v39 : BitVec 1 := Scalar.cmpi .slt v1 c0_i32_14
  let v40 : BitVec 32 := Scalar.extui v39
  let v41 : BitVec 32 := Scalar.subi v38 v40
  let c0_i32_15 : BitVec 32 := 0#32
  let v42 : BitVec 1 := Scalar.cmpi .sgt c32_i32_12 c0_i32_15
  let v43 : BitVec 32 := Scalar.extui v42
  let c0_i32_16 : BitVec 32 := 0#32
  let v44 : BitVec 1 := Scalar.cmpi .slt c32_i32_12 c0_i32_16
  let v45 : BitVec 32 := Scalar.extui v44
  let v46 : BitVec 32 := Scalar.subi v43 v45
  let v47 : BitVec 1 := Scalar.cmpi .ne v41 v46
  let v48 : BitVec 32 := Scalar.remsi v1 c32_i32_12
  let c0_i32_17 : BitVec 32 := 0#32
  let v49 : BitVec 1 := Scalar.cmpi .ne v48 c0_i32_17
  let v50 : BitVec 1 := Scalar.andi v47 v49
  let c1_i32_18 : BitVec 32 := 1#32
  let v51 : BitVec 32 := Scalar.subi v36 c1_i32_18
  let v52 : BitVec 32 := Scalar.select v50 v51 v36
  let c5_i32_19 : BitVec 32 := 5#32
  let c0_i32_20 : BitVec 32 := 0#32
  let v53 : BitVec 1 := Scalar.cmpi .eq c5_i32_19 c0_i32_20
  let c1_i32_21 : BitVec 32 := 1#32
  let v54 : BitVec 32 := Scalar.select v53 c1_i32_21 c5_i32_19
  let v55 : BitVec 32 := Scalar.remsi v52 v54
  let c0_i32_22 : BitVec 32 := 0#32
  let v56 : BitVec 1 := Scalar.cmpi .ne v55 c0_i32_22
  let c0_i32_23 : BitVec 32 := 0#32
  let v57 : BitVec 1 := Scalar.cmpi .slt v55 c0_i32_23
  let c0_i32_24 : BitVec 32 := 0#32
  let v58 : BitVec 1 := Scalar.cmpi .slt v54 c0_i32_24
  let v59 : BitVec 1 := Scalar.xori v57 v58
  let v60 : BitVec 1 := Scalar.andi v59 v56
  let v61 : BitVec 32 := Scalar.addi v55 v54
  let v62 : BitVec 32 := Scalar.select v60 v61 v55
  let c32_i32_25 : BitVec 32 := 32#32
  let c0_i32_26 : BitVec 32 := 0#32
  let v63 : BitVec 1 := Scalar.cmpi .eq c32_i32_25 c0_i32_26
  let c1_i32_27 : BitVec 32 := 1#32
  let v64 : BitVec 32 := Scalar.select v63 c1_i32_27 c32_i32_25
  let v65 : BitVec 32 := Scalar.remsi v1 v64
  let c0_i32_28 : BitVec 32 := 0#32
  let v66 : BitVec 1 := Scalar.cmpi .ne v65 c0_i32_28
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let v70 : BitVec 1 := Scalar.andi v69 v66
  let v71 : BitVec 32 := Scalar.addi v65 v64
  let v72 : BitVec 32 := Scalar.select v70 v71 v65
  let c32_i32_31 : BitVec 32 := 32#32
  let v73 : BitVec 32 := Scalar.muli v35 c32_i32_31
  let v74 : BitVec 32 := Scalar.addi v73 v72
  let c0_i32_32 : BitVec 32 := 0#32
  ![v74.toNat, v62.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c32_i32_8 : BitVec 32 := 32#32
  let c0_i32_9 : BitVec 32 := 0#32
  let v21 : BitVec 1 := Scalar.cmpi .eq c32_i32_8 c0_i32_9
  let c1_i32_10 : BitVec 32 := 1#32
  let v22 : BitVec 32 := Scalar.select v21 c1_i32_10 c32_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttentionIdeal.lean ====
variable {F : FTy → Type} [FloatOps F] [Named F]
def κ : String → Option EReal := fun
  | "log2_fp8_max" => some (((Real.log 448) * (Real.log 2)⁻¹ : ℝ) : EReal)
  | "sm_scale" => some (((Real.sqrt 128)⁻¹ : ℝ) : EReal)
  | "sm_scale_log2e" => some (((Real.sqrt 128)⁻¹ * (Real.log 2)⁻¹ : ℝ) : EReal)
  | _ => none
-- ==== AttentionRefIdeal.lean ====
variable {F : FTy → Type} [FloatOps F] [Named F]
def κ : String → Option EReal := fun
  | "log2e" => some (((Real.log 2)⁻¹ : ℝ) : EReal)
  | "sm_scale" => some (((Real.sqrt 128)⁻¹ : ℝ) : EReal)
  | _ => none
-- ==== AttentionRef.lean ====
abbrev S16384x1280 : Shape := ⟨2, ![16384, 1280]⟩
abbrev S2x8x8192 : Shape := ⟨3, ![2, 8, 8192]⟩
abbrev S10x8192x128 : Shape := ⟨3, ![10, 8192, 128]⟩
abbrev S10x4x8192x128 : Shape := ⟨4, ![10, 4, 8192, 128]⟩
abbrev S10x1024x128 : Shape := ⟨3, ![10, 1024, 128]⟩
abbrev S10x128x8192 : Shape := ⟨3, ![10, 128, 8192]⟩
abbrev S10x8x128 : Shape := ⟨3, ![10, 8, 128]⟩
abbrev S16384x640 : Shape := ⟨2, ![16384, 640]⟩
abbrev S2x8x640 : Shape := ⟨3, ![2, 8, 640]⟩
abbrev S81920x128 : Shape := ⟨2, ![81920, 128]⟩
abbrev S10x1x8192 : Shape := ⟨3, ![10, 1, 8192]⟩
abbrev S2x8192x5x256 : Shape := ⟨4, ![2, 8192, 5, 256]⟩
abbrev S2x5x8192x256 : Shape := ⟨4, ![2, 5, 8192, 256]⟩
abbrev S10x8192x256 : Shape := ⟨3, ![10, 8192, 256]⟩
abbrev S40x2048x128 : Shape := ⟨3, ![40, 2048, 128]⟩
abbrev S40x8192x128 : Shape := ⟨3, ![40, 8192, 128]⟩
abbrev S40x2048x8192 : Shape := ⟨3, ![40, 2048, 8192]⟩
abbrev S10x8192x8192 : Shape := ⟨3, ![10, 8192, 8192]⟩
abbrev S2x5x8192 : Shape := ⟨3, ![2, 5, 8192]⟩
abbrev S10x8192 : Shape := ⟨2, ![10, 8192]⟩
abbrev S10x128x1x8x128 : Shape := ⟨5, ![10, 128, 1, 8, 128]⟩
abbrev S10x128x8x8x128 : Shape := ⟨5, ![10, 128, 8, 8, 128]⟩
abbrev S10x1x128x8192 : Shape := ⟨4, ![10, 1, 128, 8192]⟩
abbrev S10x64x128x8192 : Shape := ⟨4, ![10, 64, 128, 8192]⟩
abbrev S10x8192x1 : Shape := ⟨3, ![10, 8192, 1]⟩
abbrev S10x1x128 : Shape := ⟨3, ![10, 1, 128]⟩
abbrev S2x5x8192x128 : Shape := ⟨4, ![2, 5, 8192, 128]⟩
abbrev S2x8192x5x128 : Shape := ⟨4, ![2, 8192, 5, 128]⟩
abbrev S2x1x640 : Shape := ⟨3, ![2, 1, 640]⟩
abbrev S2x640 : Shape := ⟨2, ![2, 640]⟩

abbrev nBuf : Space → Nat
  | .hbm => 12
  | .vmem => 12
  | .smem => 0
  | _ => 0

abbrev bufTy : (tb : Table) → Fin (tcTables nBuf tb) → BufTy
  | .hbm, ⟨0, _⟩ => ⟨S16384x1280, .bf16⟩
  | .hbm, ⟨1, _⟩ => ⟨S2x8x8192, .f32⟩
  | .hbm, ⟨2, _⟩ => ⟨S10x8192x128, .bf16⟩
  | .hbm, ⟨3, _⟩ => ⟨S10x4x8192x128, .bf16⟩
  | .hbm, ⟨4, _⟩ => ⟨S10x1024x128, .f32⟩
  | .hbm, ⟨5, _⟩ => ⟨S10x128x8192, .fp8e4m3⟩
  | .hbm, ⟨6, _⟩ => ⟨S10x8x128, .f32⟩
  | .hbm, ⟨7, _⟩ => ⟨S16384x640, .f32⟩
  | .hbm, ⟨8, _⟩ => ⟨S2x8x640, .f32⟩
  | .hbm, ⟨9, _⟩ => ⟨S81920x128, .bf16⟩
  | .hbm, ⟨10, _⟩ => ⟨S16384x640, .f32⟩
  | .hbm, ⟨11, _⟩ => ⟨S10x1x8192, .f32⟩
  | .local _ .vmem, ⟨0, _⟩ => ⟨S16384x1280, .bf16⟩
  | .local _ .vmem, ⟨1, _⟩ => ⟨S2x8x8192, .f32⟩
  | .local _ .vmem, ⟨2, _⟩ => ⟨S10x8192x128, .bf16⟩
  | .local _ .vmem, ⟨3, _⟩ => ⟨S10x4x8192x128, .bf16⟩
  | .local _ .vmem, ⟨4, _⟩ => ⟨S10x1024x128, .f32⟩
  | .local _ .vmem, ⟨5, _⟩ => ⟨S10x128x8192, .fp8e4m3⟩
  | .local _ .vmem, ⟨6, _⟩ => ⟨S10x8x128, .f32⟩
  | .local _ .vmem, ⟨7, _⟩ => ⟨S16384x640, .f32⟩
  | .local _ .vmem, ⟨8, _⟩ => ⟨S2x8x640, .f32⟩
  | .local _ .vmem, ⟨9, _⟩ => ⟨S81920x128, .bf16⟩
  | .local _ .vmem, ⟨10, _⟩ => ⟨S16384x640, .f32⟩
  | .local _ .vmem, ⟨11, _⟩ => ⟨S10x1x8192, .f32⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x4x8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x128x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S81920x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S10x1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Out.lean ====
abbrev S16384x640 : Shape := ⟨2, ![16384, 640]⟩
abbrev S2x8x640 : Shape := ⟨3, ![2, 8, 640]⟩
abbrev S2x8192x5120 : Shape := ⟨3, ![2, 8192, 5120]⟩
abbrev S5x128x5120 : Shape := ⟨3, ![5, 128, 5120]⟩
abbrev S5120 : Shape := ⟨1, ![5120]⟩
abbrev S2x5120 : Shape := ⟨2, ![2, 5120]⟩
abbrev S16384x5120 : Shape := ⟨2, ![16384, 5120]⟩
abbrev S640x5120 : Shape := ⟨2, ![640, 5120]⟩
abbrev S1x5120 : Shape := ⟨2, ![1, 5120]⟩
abbrev S2x1x5120 : Shape := ⟨3, ![2, 1, 5120]⟩
abbrev S2x5x8192x128 : Shape := ⟨4, ![2, 5, 8192, 128]⟩
abbrev S64x1x256 : Shape := ⟨3, ![64, 1, 256]⟩
abbrev S256x640 : Shape := ⟨2, ![256, 640]⟩
abbrev S1x8x640 : Shape := ⟨3, ![1, 8, 640]⟩
abbrev S256x5120 : Shape := ⟨2, ![256, 5120]⟩
abbrev S1x1x5120 : Shape := ⟨3, ![1, 1, 5120]⟩
abbrev S1x5x256x128 : Shape := ⟨4, ![1, 5, 256, 128]⟩
abbrev S1x1x256 : Shape := ⟨3, ![1, 1, 256]⟩
abbrev S1x1x640 : Shape := ⟨3, ![1, 1, 640]⟩
abbrev S1x640 : Shape := ⟨2, ![1, 640]⟩
abbrev S256 : Shape := ⟨1, ![256]⟩
abbrev S256x1 : Shape := ⟨2, ![256, 1]⟩
abbrev S256x128 : Shape := ⟨2, ![256, 128]⟩
abbrev S1x1x256x128 : Shape := ⟨4, ![1, 1, 256, 128]⟩
abbrev S128x256 : Shape := ⟨2, ![128, 256]⟩
abbrev S1x256 : Shape := ⟨2, ![1, 256]⟩
abbrev S640x512 : Shape := ⟨2, ![640, 512]⟩
abbrev S256x512 : Shape := ⟨2, ![256, 512]⟩
abbrev S1x512 : Shape := ⟨2, ![1, 512]⟩
abbrev S1x1x512 : Shape := ⟨3, ![1, 1, 512]⟩

abbrev nBuf : Space → Nat
  | .hbm => 15
  | .vmem => 18
  | .smem => 0
  | _ => 0

abbrev bufTy : (tb : Table) → Fin (tcTables nBuf tb) → BufTy
  | .hbm, ⟨0, _⟩ => ⟨S16384x640, .f32⟩
  | .hbm, ⟨1, _⟩ => ⟨S2x8x640, .f32⟩
  | .hbm, ⟨2, _⟩ => ⟨S2x8192x5120, .bf16⟩
  | .hbm, ⟨3, _⟩ => ⟨S5x128x5120, .i8⟩
  | .hbm, ⟨4, _⟩ => ⟨S5120, .f32⟩
  | .hbm, ⟨5, _⟩ => ⟨S5120, .f32⟩
  | .hbm, ⟨6, _⟩ => ⟨S2x5120, .f32⟩
  | .hbm, ⟨7, _⟩ => ⟨S16384x5120, .bf16⟩
  | .hbm, ⟨8, _⟩ => ⟨S640x5120, .i8⟩
  | .hbm, ⟨9, _⟩ => ⟨S1x5120, .f32⟩
  | .hbm, ⟨10, _⟩ => ⟨S1x5120, .f32⟩
  | .hbm, ⟨11, _⟩ => ⟨S2x1x5120, .f32⟩
  | .hbm, ⟨12, _⟩ => ⟨S16384x5120, .bf16⟩
  | .hbm, ⟨13, _⟩ => ⟨S2x5x8192x128, .i8⟩
  | .hbm, ⟨14, _⟩ => ⟨S64x1x256, .f32⟩
  | .local _ .vmem, ⟨0, _⟩ => ⟨S256x640, .f32⟩
  | .local _ .vmem, ⟨1, _⟩ => ⟨S256x640, .f32⟩
  | .local _ .vmem, ⟨2, _⟩ => ⟨S1x8x640, .f32⟩
  | .local _ .vmem, ⟨3, _⟩ => ⟨S1x8x640, .f32⟩
  | .local _ .vmem, ⟨4, _⟩ => ⟨S256x5120, .bf16⟩
  | .local _ .vmem, ⟨5, _⟩ => ⟨S256x5120, .bf16⟩
  | .local _ .vmem, ⟨6, _⟩ => ⟨S640x5120, .i8⟩
  | .local _ .vmem, ⟨7, _⟩ => ⟨S1x5120, .f32⟩
  | .local _ .vmem, ⟨8, _⟩ => ⟨S1x5120, .f32⟩
  | .local _ .vmem, ⟨9, _⟩ => ⟨S1x1x5120, .f32⟩
  | .local _ .vmem, ⟨10, _⟩ => ⟨S1x1x5120, .f32⟩
  | .local _ .vmem, ⟨11, _⟩ => ⟨S256x5120, .bf16⟩
  | .local _ .vmem, ⟨12, _⟩ => ⟨S256x5120, .bf16⟩
  | .local _ .vmem, ⟨13, _⟩ => ⟨S1x5x256x128, .i8⟩
  | .local _ .vmem, ⟨14, _⟩ => ⟨S1x5x256x128, .i8⟩
  | .local _ .vmem, ⟨15, _⟩ => ⟨S1x1x256, .f32⟩
  | .local _ .vmem, ⟨16, _⟩ => ⟨S1x1x256, .f32⟩
  | .local _ .vmem, ⟨17, _⟩ => ⟨S640x5120, .bf16⟩
  | _, _ => ⟨S16384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x5x256x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x640 : Shape := ⟨2, ![16384, 640]⟩
abbrev S2x8x640 : Shape := ⟨3, ![2, 8, 640]⟩
abbrev S2x8192x5120 : Shape := ⟨3, ![2, 8192, 5120]⟩
abbrev S5x128x5120 : Shape := ⟨3, ![5, 128, 5120]⟩
abbrev S5120 : Shape := ⟨1, ![5120]⟩
abbrev S2x5120 : Shape := ⟨2, ![2, 5120]⟩
abbrev S1x5120 : Shape := ⟨2, ![1, 5120]⟩
abbrev S16384x5120 : Shape := ⟨2, ![16384, 5120]⟩
abbrev S2x5x8192x128 : Shape := ⟨4, ![2, 5, 8192, 128]⟩
abbrev S64x1x256 : Shape := ⟨3, ![64, 1, 256]⟩
abbrev S2x1x640 : Shape := ⟨3, ![2, 1, 640]⟩
abbrev S2x640 : Shape := ⟨2, ![2, 640]⟩
abbrev S2x8192x640 : Shape := ⟨3, ![2, 8192, 640]⟩
abbrev S16384 : Shape := ⟨1, ![16384]⟩
abbrev S16384x1 : Shape := ⟨2, ![16384, 1]⟩
abbrev S640x5120 : Shape := ⟨2, ![640, 5120]⟩
abbrev S2x1x5120 : Shape := ⟨3, ![2, 1, 5120]⟩
abbrev S2x8192x5x128 : Shape := ⟨4, ![2, 8192, 5, 128]⟩

abbrev nBuf : Space → Nat
  | .hbm => 12
  | .vmem => 10
  | .smem => 0
  | _ => 0

abbrev bufTy : (tb : Table) → Fin (tcTables nBuf tb) → BufTy
  | .hbm, ⟨0, _⟩ => ⟨S16384x640, .f32⟩
  | .hbm, ⟨1, _⟩ => ⟨S2x8x640, .f32⟩
  | .hbm, ⟨2, _⟩ => ⟨S2x8192x5120, .bf16⟩
  | .hbm, ⟨3, _⟩ => ⟨S5x128x5120, .i8⟩
  | .hbm, ⟨4, _⟩ => ⟨S5120, .f32⟩
  | .hbm, ⟨5, _⟩ => ⟨S5120, .f32⟩
  | .hbm, ⟨6, _⟩ => ⟨S2x5120, .f32⟩
  | .hbm, ⟨7, _⟩ => ⟨S1x5120, .f32⟩
  | .hbm, ⟨8, _⟩ => ⟨S1x5120, .f32⟩
  | .hbm, ⟨9, _⟩ => ⟨S16384x5120, .bf16⟩
  | .hbm, ⟨10, _⟩ => ⟨S2x5x8192x128, .i8⟩
  | .hbm, ⟨11, _⟩ => ⟨S64x1x256, .f32⟩
  | .local _ .vmem, ⟨0, _⟩ => ⟨S16384x640, .f32⟩
  | .local _ .vmem, ⟨1, _⟩ => ⟨S2x8x640, .f32⟩
  | .local _ .vmem, ⟨2, _⟩ => ⟨S2x8192x5120, .bf16⟩
  | .local _ .vmem, ⟨3, _⟩ => ⟨S5x128x5120, .i8⟩
  | .local _ .vmem, ⟨4, _⟩ => ⟨S1x5120, .f32⟩
  | .local _ .vmem, ⟨5, _⟩ => ⟨S1x5120, .f32⟩
  | .local _ .vmem, ⟨6, _⟩ => ⟨S2x5120, .f32⟩
  | .local _ .vmem, ⟨7, _⟩ => ⟨S16384x5120, .bf16⟩
  | .local _ .vmem, ⟨8, _⟩ => ⟨S2x5x8192x128, .i8⟩
  | .local _ .vmem, ⟨9, _⟩ => ⟨S64x1x256, .f32⟩
  | _, _ => ⟨S16384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16384x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x128x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x5x8192x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.AttnScore.lean ====
/-
  The attention kernel's scores: the 64-key pieces that the body computes, and the running maximum over them, as
  functions of the blocks they are computed from.
-/
module
public import proofs.«01_k».proof.Proof.Gen.AttentionIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.AttnKernel

open Idealize.ShloMosaic Idealize.SL.Sem Cert.AttentionIdeal Cert.AttentionIdeal.Gen Idealize.ShloMosaic.TcCoe
open Idealize.ShloMosaic.Pipeline (Dat Cfg Window)

theorem inb_kc {n : Nat} (h : n < 128) (i : Fin 3) : (![0, 1024 * (n / 16), 0] : Fin 3 → Nat) i + (![1, 1024, 128] : Fin 3 → Nat) i ≤ (![1, 8192, 128] : Fin 3 → Nat) i := by
  fin_cases i <;> simp <;> omega
theorem inb_aug {n : Nat} (h : n < 128) (i : Fin 4) : (![0, 0, 1024 * (n / 16), 0] : Fin 4 → Nat) i + (![1, 1, 1024, 128] : Fin 4 → Nat) i ≤ (![1, 1, 8192, 128] : Fin 4 → Nat) i := by
  fin_cases i <;> simp <;> omega
theorem inb_ks {n : Nat} (h : n < 128) (i : Fin 3) : (![0, 8 * n, 0] : Fin 3 → Nat) i + (![1, 8, 128] : Fin 3 → Nat) i ≤ (![1, 1024, 128] : Fin 3 → Nat) i := by
  fin_cases i <;> simp <;> omega
theorem slices_z (n : Nat) : S1024x256.Slices ![64 * (n % 16), 0] S64x256 := by
  have h1 : n % 16 < 16 := Nat.mod_lt _ (by decide)
  refine ⟨rfl, fun i => ?_⟩
  fin_cases i <;> simp [S1024x256, S64x256] <;> omega

/-- The product of 1024 keys, extended by 128 lanes of `aug`, with 256 queries. -/
def prod (qa : Vec Ideal S256x256 .bf16) (w : Vec Ideal S1x1024x128 .bf16) (u : Vec Ideal S1x1x1024x128 .bf16) : Vec Ideal S1024x256 .f32 :=
  matmul (F := Ideal) (φ₁ := .bf16) (φ₂ := .bf16) dot_S1024x256_S256x256_S1024x256_1_1_0_0_n_n none
      (concatenate S1024x256 1
        [⟨S1024x128, shapeCast S1024x128 w shapeCasts_S1x1024x128_S1024x128⟩,
         ⟨S1024x128, shapeCast S1024x128 u shapeCasts_S1x1x1024x128_S1024x128⟩]
        concatenates_S1024x128_S1024x128_S1024x256_d1) qa (constant S1024x256 .f32 0x00000000#32)

/-- Eight rows of key scales times the query scales. -/
def scl (w : Vec Ideal S1x8x128 .f32) (qs : Vec Ideal S8x256 .f32) : Vec Ideal S8x256 .f32 :=
  mulf (F := Ideal) (φ := .f32) (concatenate S8x256 1
        [⟨S8x128, shapeCast S8x128 w shapeCasts_S1x8x128_S8x128⟩, ⟨S8x128, shapeCast S8x128 w shapeCasts_S1x8x128_S8x128⟩]
        concatenates_S8x128_S8x128_S8x256_d1) qs

/-- Sixty-four rows of a product, times their scales. -/
def mul64 (z : Vec Ideal S1024x256 .f32) (g : Vec Ideal S8x256 .f32) (o : Nat) (h : S1024x256.Slices ![o, 0] S64x256) : Vec Ideal S8x8x256 .f32 :=
  mulf (F := Ideal) (φ := .f32) (shapeCast S8x8x256 (extractStridedSlice S64x256 ![o, 0] z h) shapeCasts_S64x256_S8x8x256)
    (broadcastTo S8x8x256 (shapeCast S1x8x256 g shapeCasts_S8x256_S1x8x256) broadcasts_S1x8x256_S8x8x256)

/-- The scores of 64 keys. -/
def leaf (qa : Vec Ideal S256x256 .bf16) (kc : Vec Ideal S1x8192x128 .bf16) (aug : Vec Ideal S1x1x8192x128 .bf16)
    (ks : Vec Ideal S1x1024x128 .f32) (qs : Vec Ideal S8x256 .f32) (n : Nat) (h : n < 128) : Vec Ideal S8x8x256 .f32 :=
  mul64 (prod qa (View.ld kc (Rect.unit (s := S1x8192x128) ![0, 1024 * (n / 16), 0] ![1, 1024, 128] (inb_kc h)))
      (View.ld aug (Rect.unit (s := S1x1x8192x128) ![0, 0, 1024 * (n / 16), 0] ![1, 1, 1024, 128] (inb_aug h))))
    (scl (View.ld ks (Rect.unit (s := S1x1024x128) ![0, 8 * n, 0] ![1, 8, 128] (inb_ks h))) qs) (64 * (n % 16)) (slices_z n)

theorem mul64_apply (z : Vec Ideal S1024x256 .f32) (g : Vec Ideal S8x256 .f32) (o : Nat) (h : S1024x256.Slices ![o, 0] S64x256) (ho : o + 64 ≤ 1024)
    (a b : Fin 8) (j : Fin 256) : mul64 z g o h (ix3 a b j) = z (ix2 ⟨o + (a.val * 8 + b.val), by omega⟩ j) * g (ix2 b j) := by
  pointwise [mul64]

theorem scl_apply (w : Vec Ideal S1x8x128 .f32) (qs : Vec Ideal S8x256 .f32) (b : Fin 8) (j : Fin 256) :
    scl w qs (ix2 b j) = w (ix3 0 b ⟨j.val % 128, Nat.mod_lt _ (by decide)⟩) * qs (ix2 b j) := by
  have hj := j.isLt
  pointwise [scl]
  split <;> rename_i h
  · simp only [Nat.mod_eq_of_lt h]
  · have e : j.val % 128 = j.val - 128 := by omega
    simp only [e]

theorem prod_apply (qa : Vec Ideal S256x256 .bf16) (w : Vec Ideal S1x1024x128 .bf16) (u : Vec Ideal S1x1x1024x128 .bf16) (r : Fin 1024) (j : Fin 256) :
    prod qa w u (ix2 r j) = (∑ k : Fin 128, w (ix3 0 r k) * qa (ix2 j ⟨k.val, by omega⟩)) + ∑ k : Fin 128, u (ix4 0 0 r k) * qa (ix2 j ⟨128 + k.val, by omega⟩) := by
  pointwise [prod]

/-- A key's score against a query of the block. -/
def score (qa : Vec Ideal S256x256 .bf16) (kc : Vec Ideal S1x8192x128 .bf16) (aug : Vec Ideal S1x1x8192x128 .bf16)
    (ks : Vec Ideal S1x1024x128 .f32) (qs : Vec Ideal S8x256 .f32) (r : Fin 8192) (j : Fin 256) : EReal :=
  have hr : r.val < 8192 := r.isLt
  ((∑ k : Fin 128, kc (ix3 0 r k) * qa (ix2 j ⟨k.val, by omega⟩)) + ∑ k : Fin 128, aug (ix4 0 0 r k) * qa (ix2 j ⟨128 + k.val, by omega⟩))
    * (ks (ix3 0 ⟨r.val / 64 * 8 + r.val % 8, by omega⟩ ⟨j.val % 128, Nat.mod_lt _ (by decide)⟩) * qs (ix2 ⟨r.val % 8, by omega⟩ j))

theorem leaf_apply (qa : Vec Ideal S256x256 .bf16) (kc : Vec Ideal S1x8192x128 .bf16) (aug : Vec Ideal S1x1x8192x128 .bf16)
    (ks : Vec Ideal S1x1024x128 .f32) (qs : Vec Ideal S8x256 .f32) (n : Nat) (h : n < 128) (a b : Fin 8) (j : Fin 256)
    (r : Fin 8192) (hr : r.val = 64 * n + (a.val * 8 + b.val)) :
    leaf qa kc aug ks qs n h (ix3 a b j) = score qa kc aug ks qs r j := by
  have ha : a.val < 8 := a.isLt
  have hb : b.val < 8 := b.isLt
  unfold leaf score
  rw [mul64_apply _ _ _ _ (by omega), prod_apply, scl_apply]
  have eb : (⟨r.val % 8, by omega⟩ : Fin 8) = b := Fin.ext (by show r.val % 8 = b.val; omega)
  have hk (k : Fin 128) : View.ld kc (Rect.unit (s := S1x8192x128) ![0, 1024 * (n / 16), 0] ![1, 1024, 128] (inb_kc h))
      (ix3 0 ⟨64 * (n % 16) + (a.val * 8 + b.val), by omega⟩ k) = kc (ix3 0 r k) := by
    apply congrArg kc
    funext i
    fin_cases i <;> apply Fin.ext
    · rfl
    · show 1024 * (n / 16) + 1 * (64 * (n % 16) + (a.val * 8 + b.val)) = r.val; omega
    · show 0 + 1 * k.val = k.val; omega
  have hu (k : Fin 128) : View.ld aug (Rect.unit (s := S1x1x8192x128) ![0, 0, 1024 * (n / 16), 0] ![1, 1, 1024, 128] (inb_aug h))
      (ix4 0 0 ⟨64 * (n % 16) + (a.val * 8 + b.val), by omega⟩ k) = aug (ix4 0 0 r k) := by
    apply congrArg aug
    funext i
    fin_cases i <;> apply Fin.ext
    · rfl
    · rfl
    · show 1024 * (n / 16) + 1 * (64 * (n % 16) + (a.val * 8 + b.val)) = r.val; omega
    · show 0 + 1 * k.val = k.val; omega
  have hs (k : Fin 128) : View.ld ks (Rect.unit (s := S1x1024x128) ![0, 8 * n, 0] ![1, 8, 128] (inb_ks h)) (ix3 0 b k)
      = ks (ix3 0 ⟨r.val / 64 * 8 + r.val % 8, by omega⟩ k) := by
    apply congrArg ks
    funext i
    fin_cases i <;> apply Fin.ext
    · rfl
    · show 8 * n + 1 * b.val = r.val / 64 * 8 + r.val % 8; omega
    · show 0 + 1 * k.val = k.val; omega
  simp only [hk, hu, hs, eb]

/-- The running maximum over the first `n` blocks of 64 keys. -/
def run (L : (n : Nat) → n < 128 → Vec Ideal S8x8x256 .f32) (n : Nat) : n ≤ 128 → Vec Ideal S8x256 .f32 :=
  Nat.rec (motive := fun n => n ≤ 128 → Vec Ideal S8x256 .f32) (fun _ => k0_pay8 (F := Ideal))
    (fun n ih h => maximumf (F := Ideal) (φ := .f32) (ih (Nat.le_of_succ_le h))
      (multiReduction (F := Ideal) (φ := .f32) .maximumf [0] S8x256 (L n h) 0xFF800000#32 reduces_S8x8x256_S8x256 (.inl rfl) rfl)) n

/-- The maximum that a block keeps. -/
def mrow (x : Vec Ideal S8x256 .f32) : Vec Ideal S8x256 .f32 :=
  shapeCast S8x256 (broadcastTo S8x256 (shapeCast S1x256 (ceil (F := Ideal) (φ := .f32) (shapeCast S1x256 (multiReduction (F := Ideal) (φ := .f32) .maximumf [0] S256 x
    0xFF800000#32 reduces_S8x256_S256 (.inl rfl) rfl) shapeCasts_S256_S1x256)) shapeCasts_S1x256_S1x256) broadcasts_S1x256_S8x256) shapeCasts_S8x256_S8x256

theorem ofBits_neg_inf : Ideal.ofBits FTy.f32 4286578688#32 = ⊥ := by
  simp [Ideal.ofBits, Ideal.ieee]

/-- The largest of a family, as the folds from −∞ give it. -/
theorem fold_max {ι : Type} [Fintype ι] (f : ι → EReal) : Finset.fold max (Ideal.ofBits FTy.f32 4286578688#32) f Finset.univ = Finset.univ.sup f := by
  rw [ofBits_neg_inf]
  rfl

theorem max8_apply (x : Vec Ideal S8x8x256 .f32) (b : Fin 8) (j : Fin 256) :
    multiReduction (F := Ideal) (φ := .f32) .maximumf [0] S8x256 x 0xFF800000#32 reduces_S8x8x256_S8x256 (.inl rfl) rfl (ix2 b j) = Finset.univ.sup fun a : Fin 8 => x (ix3 a b j) := by
  pointwise
  exact fold_max _

theorem mrow_apply (x : Vec Ideal S8x256 .f32) (b : Fin 8) (j : Fin 256) :
    mrow x (ix2 b j) = Ideal.liftRound Int.ceil (Finset.univ.sup fun a : Fin 8 => x (ix2 a j)) := by
  pointwise [mrow]
  exact congrArg _ (fold_max _)

theorem run_zero (L : (n : Nat) → n < 128 → Vec Ideal S8x8x256 .f32) (h : 0 ≤ 128) (b : Fin 8) (j : Fin 256) : run L 0 h (ix2 b j) = ⊥ := by
  show k0_pay8 (F := Ideal) (ix2 b j) = ⊥
  pointwise [k0_pay8]
  exact ofBits_neg_inf

theorem run_succ (L : (n : Nat) → n < 128 → Vec Ideal S8x8x256 .f32) (n : Nat) (h : n + 1 ≤ 128) (b : Fin 8) (j : Fin 256) :
   run L (n+1) h (ix2 b j) = max (run L n (Nat.le_of_succ_le h) (ix2 b j)) (Finset.univ.sup fun a : Fin 8 => L n h (ix3 a b j)) := by
  rw [← max8_apply]
  rfl

theorem run_le (L : (n : Nat) → n < 128 → Vec Ideal S8x8x256 .f32) (n : Nat) (h : n ≤ 128) (b : Fin 8) (j : Fin 256) (z : EReal) :
    run L n h (ix2 b j) ≤ z ↔ ∀ (i : Nat) (hi : i < n) (a : Fin 8), L i (by omega) (ix3 a b j) ≤ z := by
  induction n with
  | zero => rw [run_zero]; exact ⟨fun _ i hi => absurd hi (Nat.not_lt_zero i), fun _ => bot_le⟩
  | succ n ih =>
    rw [run_succ, max_le_iff, ih, Finset.sup_le_iff]
    refine ⟨fun g i hi a => ?_, fun g => ⟨fun i hi a => g i (by omega) a, fun a _ => g n (by omega) a⟩⟩
    by_cases e : i < n
    · exact g.1 i e a
    · have e' : i = n := by omega
      subst e'
      exact g.2 a (Finset.mem_univ a)

/-- The scores of a block of queries. -/
def scores (qa : Vec Ideal S256x256 .bf16) (kc : Vec Ideal S1x8192x128 .bf16) (aug : Vec Ideal S1x1x8192x128 .bf16)
    (ks : Vec Ideal S1x1024x128 .f32) (qs : Vec Ideal S8x256 .f32) : Vec Ideal S8192x256 .f32 := fun i => score qa kc aug ks qs (i 0) (i 1)

/-- The maxima of a block of queries, rounded up. -/
def tops (qa : Vec Ideal S256x256 .bf16) (kc : Vec Ideal S1x8192x128 .bf16) (aug : Vec Ideal S1x1x8192x128 .bf16)
    (ks : Vec Ideal S1x1024x128 .f32) (qs : Vec Ideal S8x256 .f32) : Vec Ideal S8x256 .f32 := fun i =>
  Ideal.liftRound Int.ceil (Finset.univ.sup fun r : Fin 8192 => score qa kc aug ks qs r (i 1))

theorem mrow_run (qa : Vec Ideal S256x256 .bf16) (kc : Vec Ideal S1x8192x128 .bf16) (aug : Vec Ideal S1x1x8192x128 .bf16)
    (ks : Vec Ideal S1x1024x128 .f32) (qs : Vec Ideal S8x256 .f32) :
    mrow (run (leaf qa kc aug ks qs) 128 le_rfl) = tops qa kc aug ks qs := by
  funext y
  idx_vars y
  rw [mrow_apply]
  refine congrArg _ (eq_of_forall_ge_iff fun z => ?_)
  simp only [Finset.sup_le_iff, Finset.mem_univ, true_imp_iff]
  refine ⟨fun g r => ?_, fun g b => (run_le _ _ _ _ _ _).2 fun i hi a => ?_⟩
  · have hr := r.isLt
    have := (run_le _ _ _ _ _ _).1 (g ⟨r.val % 8, by omega⟩) (r.val / 64) (by omega) ⟨r.val % 64 / 8, by omega⟩
    rwa [leaf_apply (r := r) (hr := by show r.val = 64 * (r.val / 64) + (r.val % 64 / 8 * 8 + r.val % 8); omega)] at this
  · have ha := a.isLt
    have hb := b.isLt
    rw [leaf_apply (r := ⟨64 * i + (a.val * 8 + b.val), by omega⟩) (hr := rfl)]
    exact g _

end Cert.Proof.AttnKernel
-- ==== Proof.AttnRows.lean ====
/-
  The attention kernel's stored rows, the exponentials of the scores it reads back, their sum and their product with the
  values, as functions of the scores and the maxima that the previous point left.
-/
module

public import proofs.«01_k».proof.Proof.AttnScore

@[expose] public section

set_option maxRecDepth 16384

noncomputable section

namespace Cert.Proof.AttnKernel

open Idealize.ShloMosaic Idealize.SL.Sem Cert.AttentionIdeal Cert.AttentionIdeal.Gen Idealize.ShloMosaic.TcCoe
open Idealize.ShloMosaic.Pipeline (Dat Cfg Window)

/-! ## Blocks of rows, stored one after the other -/

/-- What a store covers does not depend on the earlier contents. -/
theorem canon_append {s : Shape} {e : EltTy} (L' : List (View.Piece (Elt Ideal) s e)) (y : s.Idx) :
    ∀ L : List (View.Piece (Elt Ideal) s e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := hc
      have hq' : q ∈ L := (List.mem_cons.1 hq).resolve_left fun e => hm (e ▸ hy)
      exact (View.canon_cons_of_not_mem p (L ++ L') hm).trans
        ((canon_append L' y L ⟨q, hq', hy⟩).trans (View.canon_cons_of_not_mem p L hm).symm)

section Rows

variable {e : EltTy} {k N R : Nat} (P : (i : Nat) → i < N → (⟨2, ![k, 256]⟩ : Shape).Idx → Elt Ideal e)
  (inb : ∀ i, i < N → ∀ a : Fin 2, (![k * i, 0] : Fin 2 → Nat) a + (![k, 256] : Fin 2 → Nat) a ≤ (![R, 256] : Fin 2 → Nat) a)

/-- The first `n` stores, the newest first. -/
def rows (n : Nat) : n ≤ N → List (View.Piece (Elt Ideal) (⟨2, ![R, 256]⟩ : Shape) e) :=
  Nat.rec (motive := fun n => n ≤ N → List (View.Piece (Elt Ideal) (⟨2, ![R, 256]⟩ : Shape) e)) (fun _ => [])
    (fun n ih h => ⟨Rect.unit (s := (⟨2, ![R, 256]⟩ : Shape)) ![k * n, 0] ![k, 256] (inb n h), P n h⟩ :: ih (Nat.le_of_succ_le h)) n

theorem mem_rows (n : Nat) (h : n ≤ N) (i : Nat) (hi : i < n) :
    (⟨Rect.unit (s := (⟨2, ![R, 256]⟩ : Shape)) ![k * i, 0] ![k, 256] (inb i (by omega)), P i (by omega)⟩ : View.Piece (Elt Ideal) (⟨2, ![R, 256]⟩ : Shape) e)
      ∈ rows P inb n h := by
  induction n with
  | zero => exact absurd hi (Nat.not_lt_zero i)
  | succ n ih =>
    by_cases e' : i < n
    · exact List.mem_cons_of_mem _ (ih (by omega) e')
    · obtain rfl : i = n := by omega
      exact List.mem_cons_self

theorem allAt_rows (V : Fin R → Fin 256 → Elt Ideal e)
    (hP : ∀ i hi (a : Fin k) (b : Fin 256) (r : Fin R), r.val = k * i + a.val → P i hi (ix2 a b) = V r b)
    (n : Nat) (h : n ≤ N) (y : (⟨2, ![R, 256]⟩ : Shape).Idx) : View.AllAt (rows P inb n h) y (V (y 0) (y 1)) := by
  induction n with
  | zero => exact View.allAt_nil _ _
  | succ n ih =>
    refine View.allAt_cons_unit (S := (⟨2, ![R, 256]⟩ : Shape)) _ _ _ _ _ (fun x hx => ?_) (ih _)
    have h0 := hx 0
    have h1 := hx 1
    have e1 : x = ix2 (x 0) (y 1) := by
      funext a
      fin_cases a
      · rfl
      · exact Fin.ext (by have : (y 1).val = 0 + (x 1).val := h1; show (x 1).val = (y 1).val; omega)
    rw [e1]
    exact hP n h (x 0) (y 1) (y 0) h0

/-- The stores cover their rows. -/
theorem cover_rows (n : Nat) (h : n ≤ N) (y : (⟨2, ![R, 256]⟩ : Shape).Idx) (hk : 0 < k) (hy : (y 0).val < k * n) :
    ∃ p ∈ rows P inb n h, y ∈ p.1.set := by
  have hi : (y 0).val / k < n := Nat.div_lt_of_lt_mul hy
  refine ⟨_, mem_rows P inb n h ((y 0).val / k) hi, ?_⟩
  have e1 : y = (Rect.unit (s := (⟨2, ![R, 256]⟩ : Shape)) ![k * ((y 0).val / k), 0] ![k, 256] (inb _ (by omega))).emb
      (ix2 ⟨(y 0).val % k, Nat.mod_lt _ hk⟩ (y 1)) := by
    funext a
    fin_cases a <;> apply Fin.ext
    · show (y 0).val = k * ((y 0).val / k) + 1 * ((y 0).val % k)
      have := Nat.div_add_mod (y 0).val k
      omega
    · show (y 1).val = 0 + 1 * (y 1).val
      omega
  exact (congrArg (fun z => z ∈ (Rect.unit (s := (⟨2, ![R, 256]⟩ : Shape)) ![k * ((y 0).val / k), 0] ![k, 256] (inb _ (by omega))).set) e1).mpr ((Rect.unit (s := (⟨2, ![R, 256]⟩ : Shape)) ![k * ((y 0).val / k), 0] ![k, 256] (inb _ (by omega))).idx_mem _)

/-- Reading back a row that is stored. -/
theorem canon_rows (V : Fin R → Fin 256 → Elt Ideal e)
    (hP : ∀ i hi (a : Fin k) (b : Fin 256) (r : Fin R), r.val = k * i + a.val → P i hi (ix2 a b) = V r b)
    (n : Nat) (h : n ≤ N) (y : (⟨2, ![R, 256]⟩ : Shape).Idx) (hk : 0 < k) (hy : (y 0).val < k * n) :
    View.canon (rows P inb n h) y = V (y 0) (y 1) :=
  View.canon_eq_of_allAt _ _ _ (cover_rows P inb n h y hk hy) (allAt_rows P inb V hP n h y)

end Rows

/-! ## The scores, stored -/

theorem inb_s (i : Nat) (h : i < 128) (a : Fin 2) : (![64 * i, 0] : Fin 2 → Nat) a + (![64, 256] : Fin 2 → Nat) a ≤ (![8192, 256] : Fin 2 → Nat) a := by
  fin_cases a <;> simp <;> omega

/-- What one store of scores writes. -/
def flat (x : Vec Ideal S8x8x256 .f32) : Vec Ideal S64x256 .f32 :=
  shapeCast S64x256 (shapeCast S64x256 x shapeCasts_S8x8x256_S64x256) shapeCasts_S64x256_S64x256

theorem flat_apply (x : Vec Ideal S8x8x256 .f32) (a : Fin 64) (b : Fin 256) :
    flat x (ix2 a b) = x (ix3 ⟨a.val / 8, by omega⟩ ⟨a.val % 8, by omega⟩ b) := by
  pointwise [flat]

theorem canon_scores (qa : Vec Ideal S256x256 .bf16) (kc : Vec Ideal S1x8192x128 .bf16) (aug : Vec Ideal S1x1x8192x128 .bf16)
    (ks : Vec Ideal S1x1024x128 .f32) (qs : Vec Ideal S8x256 .f32) (y : S8192x256.Idx) :
    View.canon (rows (e := .f32) (k := 64) (R := 8192) (fun i h => flat (leaf qa kc aug ks qs i h)) inb_s 128 le_rfl) y = scores qa kc aug ks qs y := by
  refine canon_rows (e := .f32) _ inb_s (fun r b => score qa kc aug ks qs r b) (fun i hi a b r hr => ?_) 128 le_rfl y (by decide) (y 0).isLt
  rw [flat_apply]
  exact leaf_apply qa kc aug ks qs i hi _ _ b r (by show r.val = 64 * i + (a.val / 8 * 8 + a.val % 8); omega)

/-! ## The exponentials -/

theorem inb_e (i : Nat) (h : i < 256) (a : Fin 2) : (![32 * i, 0] : Fin 2 → Nat) a + (![32, 256] : Fin 2 → Nat) a ≤ (![8192, 256] : Fin 2 → Nat) a := by
  fin_cases a <;> simp <;> omega

/-- The exponentials of 32 keys, from rows of scores and shifts. -/
def exps (v : Vec Ideal S32x256 .f32) (w : Vec Ideal S8x256 .f32) : Vec Ideal S4x8x256 .f32 :=
  exp2 (F := Ideal) (φ := .f32) (subf (F := Ideal) (φ := .f32) (shapeCast S4x8x256 v shapeCasts_S32x256_S4x8x256)
    (broadcastTo S4x8x256 (shapeCast S1x8x256 w shapeCasts_S8x256_S1x8x256) broadcasts_S1x8x256_S4x8x256))

/-- The exponentials of the `i`-th 32 keys. -/
def ex (S : Vec Ideal S8192x256 .f32) (w : Vec Ideal S8x256 .f32) (i : Nat) (h : i < 256) : Vec Ideal S4x8x256 .f32 :=
  exps (View.ld S (Rect.unit (s := S8192x256) ![32 * i, 0] ![32, 256] (inb_e i h))) w

theorem exps_apply (v : Vec Ideal S32x256 .f32) (w : Vec Ideal S8x256 .f32) (a : Fin 4) (b : Fin 8) (j : Fin 256) :
    exps v w (ix3 a b j) = Ideal.exp2 (v (ix2 ⟨a.val * 8 + b.val, by omega⟩ j) - w (ix2 b j)) := by
  pointwise [exps]
  rfl

/-- What one store of clipped exponentials writes. -/
def clip (x : Vec Ideal S4x8x256 .f32) : Vec Ideal S32x256 .fp8e4m3 :=
  shapeCast S32x256 (truncf (F := Ideal) .fp8e4m3 (minimumf (F := Ideal) (φ := .f32) (broadcast S32x256 (FloatOps.ofBits FTy.f32 0x43E00000#32))
    (maximumf (F := Ideal) (φ := .f32) (broadcast S32x256 (FloatOps.ofBits FTy.f32 0xC3E00000#32)) (shapeCast S32x256 x shapeCasts_S4x8x256_S32x256)))
    bitsLt_fp8e4m3_f32) shapeCasts_S32x256_S32x256

theorem clip_apply (x : Vec Ideal S4x8x256 .f32) (a : Fin 32) (j : Fin 256) :
    clip x (ix2 a j) = min (Ideal.ofBits FTy.f32 0x43E00000#32) (max (Ideal.ofBits FTy.f32 0xC3E00000#32) (x (ix3 ⟨a.val / 8, by omega⟩ ⟨a.val % 8, by omega⟩ j))) := by
  pointwise [clip]

/-- The sum of four rows of eight. -/
def sum4 (x : Vec Ideal S4x8x256 .f32) : Vec Ideal S8x256 .f32 :=
  addf (F := Ideal) (φ := .f32)
    (addf (F := Ideal) (φ := .f32) (shapeCast S8x256 (extractStridedSlice S1x8x256 ![0, 0, 0] x slices_S4x8x256_o0_0_0_S1x8x256) shapeCasts_S1x8x256_S8x256)
      (shapeCast S8x256 (extractStridedSlice S1x8x256 ![1, 0, 0] x slices_S4x8x256_o1_0_0_S1x8x256) shapeCasts_S1x8x256_S8x256))
    (addf (F := Ideal) (φ := .f32) (shapeCast S8x256 (extractStridedSlice S1x8x256 ![2, 0, 0] x slices_S4x8x256_o2_0_0_S1x8x256) shapeCasts_S1x8x256_S8x256)
      (shapeCast S8x256 (extractStridedSlice S1x8x256 ![3, 0, 0] x slices_S4x8x256_o3_0_0_S1x8x256) shapeCasts_S1x8x256_S8x256))

theorem sum4_apply (x : Vec Ideal S4x8x256 .f32) (b : Fin 8) (j : Fin 256) : sum4 x (ix2 b j) = ∑ a : Fin 4, x (ix3 a b j) := by
  rw [Fin.sum_univ_four, add_assoc]
  pointwise [sum4]

/-- The running sum of the exponentials of the first `n` blocks of 32 keys. -/
def den (E : (n : Nat) → n < 256 → Vec Ideal S4x8x256 .f32) (n : Nat) : n ≤ 256 → Vec Ideal S8x256 .f32 :=
  Nat.rec (motive := fun n => n ≤ 256 → Vec Ideal S8x256 .f32) (fun _ => broadcast S8x256 (Scalar.ofBits (F := Ideal) .f32 0x00000000#32))
    (fun n ih h => addf (F := Ideal) (φ := .f32) (ih (Nat.le_of_succ_le h)) (sum4 (E n h))) n

theorem den_zero (E : (n : Nat) → n < 256 → Vec Ideal S4x8x256 .f32) (h : 0 ≤ 256) (y : S8x256.Idx) : den E 0 h y = 0 := by
  show broadcast S8x256 (Scalar.ofBits (F := Ideal) .f32 0x00000000#32) y = 0
  pointwise

theorem den_succ (E : (n : Nat) → n < 256 → Vec Ideal S4x8x256 .f32) (n : Nat) (h : n + 1 ≤ 256) (y : S8x256.Idx) :
    den E (n + 1) h y = den E n (Nat.le_of_succ_le h) y + sum4 (E n h) y := rfl

/-- The sum over the first `n` blocks of 32 keys. -/
theorem den_apply (E : (n : Nat) → n < 256 → Vec Ideal S4x8x256 .f32) (f : Nat → EReal) (b : Fin 8) (j : Fin 256)
    (hf : ∀ i hi (a : Fin 4), E i hi (ix3 a b j) = f (32 * i + (a.val * 8 + b.val)))
    (n : Nat) (h : n ≤ 256) : den E n h (ix2 b j) = ∑ i ∈ Finset.range n, ∑ a : Fin 4, f (32 * i + (a.val * 8 + b.val)) := by
  induction n with
  | zero => rw [den_zero, Finset.range_zero, Finset.sum_empty]
  | succ n ih =>
    rw [den_succ, ih, sum4_apply, Finset.sum_range_succ]
    simp only [hf]

/-- The sum over the keys, from the sums over the eight rows of the running sum. -/
theorem sum_keys (f : Nat → EReal) :
    (∑ b : Fin 8, ∑ i ∈ Finset.range 256, ∑ a : Fin 4, f (32 * i + (a.val * 8 + b.val))) = ∑ r : Fin 8192, f r.val := by
  have h1 (g : Nat → EReal) : (∑ b : Fin 8, ∑ a : Fin 4, g (a.val * 8 + b.val)) = ∑ i ∈ Finset.range 32, g i := by
    simp only [Fin.sum_univ_eight, Fin.sum_univ_four, Finset.sum_range_succ, Finset.sum_range_zero]
    simp
    abel
  have h2 (n : Nat) : (∑ i ∈ Finset.range n, ∑ k ∈ Finset.range 32, f (32 * i + k)) = ∑ r ∈ Finset.range (32 * n), f r := by
    induction n with
    | zero => rfl
    | succ n ih => rw [Finset.sum_range_succ, ih, Nat.mul_succ, Finset.sum_range_add]
  rw [Finset.sum_comm, Fin.sum_univ_eq_sum_range f 8192, ← h2 256]
  exact Finset.sum_congr rfl fun i _ => h1 fun k => f (32 * i + k)

/-! ## The products with the values -/

/-- One product of 128 value lanes with 256 keys. -/
def dotp (v : Vec Ideal S1x128x256 .fp8e4m3) (p : Vec Ideal S256x256 .fp8e4m3) : Vec Ideal S128x256 .f32 :=
  matmul (F := Ideal) (φ₁ := .fp8e4m3) (φ₂ := .fp8e4m3) dot_S128x256_S256x256_S128x256_1_0_0_1_n_n none
    (shapeCast S128x256 v shapeCasts_S1x128x256_S128x256) p (constant S128x256 .f32 0x00000000#32)

theorem dotp_apply (v : Vec Ideal S1x128x256 .fp8e4m3) (p : Vec Ideal S256x256 .fp8e4m3) (d : Fin 128) (j : Fin 256) :
    dotp v p (ix2 d j) = ∑ k : Fin 256, (v (ix3 0 d k) : EReal) * p (ix2 k j) := by
  pointwise [dotp]

theorem inb_v {n : Nat} (h : n < 32) (i : Fin 3) : (![0, 0, 256 * n] : Fin 3 → Nat) i + (![1, 128, 256] : Fin 3 → Nat) i ≤ (![1, 128, 8192] : Fin 3 → Nat) i := by
  fin_cases i <;> simp <;> omega
theorem inb_p {n : Nat} (h : n < 32) (i : Fin 2) : (![256 * n, 0] : Fin 2 → Nat) i + (![256, 256] : Fin 2 → Nat) i ≤ (![8192, 256] : Fin 2 → Nat) i := by
  fin_cases i <;> simp <;> omega

/-- What the body reads of the clipped exponentials for the `n`-th block of 256 keys. -/
def back (E : (n : Nat) → n < 256 → Vec Ideal S4x8x256 .f32) (n : Nat) (h : n < 32) : Vec Ideal S256x256 .fp8e4m3 :=
  (View.whole (sig := sig) (κ := .tc) cc0_scratch2).readCov (rows (e := .fp8e4m3) (k := 32) (R := 8192) (fun i h => clip (E i h)) inb_e (32 * (n / 4 + 1)) (by omega))
    (Rect.unit (s := S8192x256) ![256 * n, 0] ![256, 256] (inb_p h)).toLoadRect

/-- The running product over the first `n` blocks of 256 keys. -/
def acc (v : Vec Ideal S1x128x8192 .fp8e4m3) (X : (n : Nat) → n < 32 → Vec Ideal S256x256 .fp8e4m3) (n : Nat) : n ≤ 32 → Vec Ideal S128x256 .f32 :=
  Nat.rec (motive := fun n => n ≤ 32 → Vec Ideal S128x256 .f32) (fun _ => k0_pay7 (F := Ideal))
    (fun n ih h => addf (F := Ideal) (φ := .f32) (ih (Nat.le_of_succ_le h))
      (dotp (View.ld v (Rect.unit (s := S1x128x8192) ![0, 0, 256 * n] ![1, 128, 256] (inb_v h))) (X n h))) n

/-- A clipped value. -/
def clp (x : EReal) : EReal := min (Ideal.ofBits FTy.f32 0x43E00000#32) (max (Ideal.ofBits FTy.f32 0xC3E00000#32) x)

theorem back_apply (E : (n : Nat) → n < 256 → Vec Ideal S4x8x256 .f32) (f : Nat → Fin 256 → EReal)
    (hf : ∀ i hi (a : Fin 4) (b : Fin 8) (j : Fin 256), E i hi (ix3 a b j) = f (32 * i + (a.val * 8 + b.val)) j)
    (n : Nat) (h : n < 32) (k j : Fin 256) : back E n h (ix2 k j) = clp (f (256 * n + k.val) j) := by
  have hk := k.isLt
  unfold back
  rw [View.readCov_eq_canon']
  have := canon_rows (e := .fp8e4m3) (k := 32) (R := 8192) (fun i h => clip (E i h)) inb_e (fun r j => clp (f r.val j))
    (fun i hi a b r hr => by
      rw [clip_apply, hf, hr]
      have e : 32 * i + (a.val / 8 * 8 + a.val % 8) = 32 * i + a.val := by omega
      show clp (f (32 * i + (a.val / 8 * 8 + a.val % 8)) b) = _
      rw [e]) (32 * (n / 4 + 1)) (by omega) ((Rect.unit (s := S8192x256) ![256 * n, 0] ![256, 256] (inb_p h)).toLoadRect.idx (ix2 k j))
    (by decide) (by show 256 * n + 1 * k.val < 32 * (32 * (n / 4 + 1)); omega)
  refine this.trans ?_
  show clp (f (256 * n + 1 * k.val) ((⟨0 + 1 * j.val, _⟩ : Fin 256))) = _
  simp only [Nat.one_mul, Nat.zero_add]

theorem acc_zero (v : Vec Ideal S1x128x8192 .fp8e4m3) (X : (n : Nat) → n < 32 → Vec Ideal S256x256 .fp8e4m3) (h : 0 ≤ 32) (d : Fin 128) (j : Fin 256) :
    acc v X 0 h (ix2 d j) = 0 := by
  show k0_pay7 (F := Ideal) (ix2 d j) = 0
  pointwise [k0_pay7]

theorem acc_succ (v : Vec Ideal S1x128x8192 .fp8e4m3) (X : (n : Nat) → n < 32 → Vec Ideal S256x256 .fp8e4m3) (n : Nat) (h : n + 1 ≤ 32) (y : S128x256.Idx) :
    acc v X (n + 1) h y = acc v X n (Nat.le_of_succ_le h) y
      + dotp (View.ld v (Rect.unit (s := S1x128x8192) ![0, 0, 256 * n] ![1, 128, 256] (inb_v h))) (X n h) y := rfl

/-- The product over the first `n` blocks of 256 keys. -/
theorem acc_apply (v : Vec Ideal S1x128x8192 .fp8e4m3) (X : (n : Nat) → n < 32 → Vec Ideal S256x256 .fp8e4m3) (d : Fin 128) (j : Fin 256)
    (V f : Nat → EReal) (hV : ∀ r : Fin 8192, v (ix3 0 d r) = V r.val) (hf : ∀ n h (k : Fin 256), X n h (ix2 k j) = f (256 * n + k.val))
    (n : Nat) (h : n ≤ 32) : acc v X n h (ix2 d j) = ∑ r ∈ Finset.range (256 * n), V r * f r := by
  induction n with
  | zero => rw [acc_zero, Nat.mul_zero, Finset.range_zero, Finset.sum_empty]
  | succ n ih =>
    rw [acc_succ, ih, dotp_apply, Nat.mul_succ, Finset.sum_range_add, ← Fin.sum_univ_eq_sum_range (fun r => V (256 * n + r) * f (256 * n + r)) 256]
    refine congrArg _ (Finset.sum_congr rfl fun k _ => ?_)
    have hk := k.isLt
    rw [hf n h k, ← hV ⟨256 * n + k.val, by omega⟩]
    refine congrArg (fun z : EReal => z * f (256 * n + k.val)) (congrArg v ?_)
    funext i
    fin_cases i <;> apply Fin.ext
    · rfl
    · show 0 + 1 * d.val = d.val; omega
    · show 256 * n + 1 * k.val = 256 * n + k.val; omega

end Cert.Proof.AttnKernel
-- ==== Proof.AttnPoint.lean ====
/-
  What a point of the attention leaves: in scratch the scores and maxima of its own block of queries, and in its output blocks
  the attention of the scores and maxima that the point before left.
-/
module

public import proofs.«01_k».proof.Proof.AttnRows

@[expose] public section

set_option maxRecDepth 65536

noncomputable section

namespace Cert.Proof.AttnKernel

open Idealize.ShloMosaic Idealize.SL.Sem Cert.AttentionIdeal Cert.AttentionIdeal.Gen Idealize.ShloMosaic.TcCoe
open Idealize.ShloMosaic.Pipeline (Dat Cfg Window)

/-- A load through a whole staging buffer that holds `x`. -/
def rd {s : Shape} {e : EltTy} (M : Memref sig .tc .vmem s e) (hM : M.IsWhole) (x : s.Idx → Elt Ideal e) (r : Rect s) :
    r.shape.Idx → Elt Ideal e := View.readAt (Elt Ideal) M.view r.toLoadRect (hM.unread x)

theorem rd_eq {s : Shape} {e : EltTy} (M : Memref sig .tc .vmem s e) (hM : M.IsWhole) (x : s.Idx → Elt Ideal e) (r : Rect s) :
    rd M hM x r = View.ld x r := by
  unfold rd
  rw [View.readAt_eq_ld, hM.read_unread]

/-- The scores of 64 keys, from any loads. -/
def leafOf (qa : Vec Ideal S256x256 .bf16) (K : (n : Nat) → n < 128 → Vec Ideal S1x1024x128 .bf16) (A : (n : Nat) → n < 128 → Vec Ideal S1x1x1024x128 .bf16)
    (G : (n : Nat) → n < 128 → Vec Ideal S1x8x128 .f32) (qs : Vec Ideal S8x256 .f32) (n : Nat) (h : n < 128) : Vec Ideal S8x8x256 .f32 :=
  mul64 (prod qa (K n h) (A n h)) (scl (G n h) qs) (64 * (n % 16)) (slices_z n)

variable (m : (ℓ : Loc nD τ sig) → Buf (Elt Ideal) ℓ)

/-- The scales of a block's queries. -/
def qs (c : Dev nD) (t : Fin cfg0.N) : Vec Ideal S8x256 .f32 := k0_pay6 (F := Ideal) (k0_pay5 (grid0.coords t)) (iblk m c 1 t)

/-- The scores of 64 keys, as the body computes them. -/
def lf (c : Dev nD) (t : Fin cfg0.N) (n : Nat) (h : n < 128) : Vec Ideal S8x8x256 .f32 :=
  leafOf (rd (ms0_0 t) (hs0_0 t) (iblk m c 0 t) (Rect.unit (s := S256x256) ![0, 0] S256x256.size inb_S256x256_S256x256_0_0))
    (fun n h => rd (ms0_2 t) (hs0_2 t) (iblk m c 2 t) (Rect.unit (s := S1x8192x128) ![0, 1024 * (n / 16), 0] ![1, 1024, 128] (inb_kc h)))
    (fun n h => rd (ms0_3 t) (hs0_3 t) (iblk m c 3 t) (Rect.unit (s := S1x1x8192x128) ![0, 0, 1024 * (n / 16), 0] ![1, 1, 1024, 128] (inb_aug h)))
    (fun n h => rd (ms0_4 t) (hs0_4 t) (iblk m c 4 t) (Rect.unit (s := S1x1024x128) ![0, 8 * n, 0] ![1, 8, 128] (inb_ks h)))
    (k0_pay6 (F := Ideal) (k0_pay5 (grid0.coords t)) (rd (ms0_1 t) (hs0_1 t) (iblk m c 1 t) (Rect.unit (s := S1x8x256) ![0, 0, 0] S1x8x256.size inb_S1x8x256_S1x8x256_0_0_0))) n h

theorem lf_eq (c : Dev nD) (t : Fin cfg0.N) :
    lf m c t = leaf (iblk m c 0 t) (iblk m c 2 t) (iblk m c 3 t) (iblk m c 4 t) (qs m c t) := by
  funext n h
  unfold lf qs
  simp only [rd_eq]
  rw [View.ld_unit_zero (by decide), View.ld_unit_zero (by decide)]
  rfl

/-- The scores left in scratch. -/
theorem scores_A (c : Dev nD) (t : Fin cfg0.N) (h : t.val % 321 = 0) :
    ((outsAt0 m c t.val t.isLt).2.2.2.1 : Vec Ideal S8192x256 .f32)
      = View.canon (rows (e := .f32) (k := 64) (R := 8192) (fun i h => flat (lf m c t i h)) inb_s 128 le_rfl
          ++ [⟨Rect.unit (s := S8192x256) ![0, 0] S8192x256.size inb_S8192x256_S8192x256_0_0, k0_pay2 (F := Ideal)⟩]) := by
  rw [outsAt0_A m c t h]
  dsimp only
  unfold sout0_A_0
  rw [View.read_writes_junk_eq_canon]
  refine congrArg View.canon ?_
  sl_kernel_rfl

theorem scores_B (c : Dev nD) (t : Fin cfg0.N) (h : ¬ t.val % 321 = 0) :
    ((outsAt0 m c t.val t.isLt).2.2.2.1 : Vec Ideal S8192x256 .f32)
      = View.canon (rows (e := .f32) (k := 64) (R := 8192) (fun i h => flat (lf m c t i h)) inb_s 128 le_rfl) := by
  rw [outsAt0_B m c t h]
  dsimp only
  unfold sout0_B_0
  rw [View.read_writes_junk_eq_canon]
  refine congrArg View.canon ?_
  sl_kernel_rfl

theorem scores_point (c : Dev nD) (t : Fin cfg0.N) : ((outsAt0 m c t.val t.isLt).2.2.2.1 : Vec Ideal S8192x256 .f32)
    = scores (iblk m c 0 t) (iblk m c 2 t) (iblk m c 3 t) (iblk m c 4 t) (qs m c t) := by
  funext y
  rw [← canon_scores, ← lf_eq]
  by_cases h : t.val % 321 = 0
  · rw [scores_A m c t h]
    exact canon_append _ _ _ (cover_rows _ _ _ _ _ (by decide) (y 0).isLt)
  · rw [scores_B m c t h]

/-- The maxima left in scratch. -/
theorem tops_A (c : Dev nD) (t : Fin cfg0.N) (h : t.val % 321 = 0) :
    ((outsAt0 m c t.val t.isLt).2.2.2.2 : Vec Ideal S8x256 .f32)
      = View.canon [⟨Rect.unit (s := S8x256) ![0, 0] S8x256.size inb_S8x256_S8x256_0_0, mrow (run (lf m c t) 128 le_rfl)⟩,
          ⟨Rect.unit (s := S8x256) ![0, 0] S8x256.size inb_S8x256_S8x256_0_0, k0_pay3 (F := Ideal)⟩] := by
  rw [outsAt0_A m c t h]
  dsimp only
  unfold sout0_A_1
  rw [View.read_writes_junk_eq_canon]
  refine congrArg View.canon ?_
  sl_kernel_rfl

theorem tops_B (c : Dev nD) (t : Fin cfg0.N) (h : ¬ t.val % 321 = 0) :
    ((outsAt0 m c t.val t.isLt).2.2.2.2 : Vec Ideal S8x256 .f32)
      = View.canon [⟨Rect.unit (s := S8x256) ![0, 0] S8x256.size inb_S8x256_S8x256_0_0, mrow (run (lf m c t) 128 le_rfl)⟩] := by
  rw [outsAt0_B m c t h]
  dsimp only
  unfold sout0_B_1
  rw [View.read_writes_junk_eq_canon]
  refine congrArg View.canon ?_
  sl_kernel_rfl

theorem tops_point (c : Dev nD) (t : Fin cfg0.N) : ((outsAt0 m c t.val t.isLt).2.2.2.2 : Vec Ideal S8x256 .f32)
    = tops (iblk m c 0 t) (iblk m c 2 t) (iblk m c 3 t) (iblk m c 4 t) (qs m c t) := by
  rw [← mrow_run, ← lf_eq]
  by_cases h : t.val % 321 = 0
  · exact (tops_A m c t h).trans (View.canon_cons_unit_zero (S := S8x256) (by decide) _ _ _)
  · exact (tops_B m c t h).trans (View.canon_cons_unit_zero (S := S8x256) (by decide) _ _ _)

/-! ## The outputs -/

/-- What the point before left in scratch. -/
abbrev S0 (c : Dev nD) (t : Fin cfg0.N) : Vec Ideal S8192x256 .f32 := (outsAt0 m c (t.val - 1) (Nat.lt_of_le_of_lt (Nat.sub_le _ _) t.isLt)).2.2.2.1
abbrev M0 (c : Dev nD) (t : Fin cfg0.N) : Vec Ideal S8x256 .f32 := (outsAt0 m c (t.val - 1) (Nat.lt_of_le_of_lt (Nat.sub_le _ _) t.isLt)).2.2.2.2

/-- The shift of a block's scores, as the body computes it. -/
def shf (c : Dev nD) (t : Fin cfg0.N) : Vec Ideal S8x256 .f32 :=
  k0_pay4 (F := Ideal) (rd scM0_1 (Memref.isWhole_whole _) (M0 m c t) (Rect.unit (s := S8x256) ![0, 0] S1x256.size inb_S8x256_S1x256_0_0))

/-- The exponentials of 32 keys, as the body computes them. -/
def exf (c : Dev nD) (t : Fin cfg0.N) (n : Nat) (h : n < 256) : Vec Ideal S4x8x256 .f32 :=
  exps (rd scM0_0 (Memref.isWhole_whole _) (S0 m c t) (Rect.unit (s := S8192x256) ![32 * n, 0] ![32, 256] (inb_e n h))) (shf m c t)

/-- The product with the values, as the body computes it. -/
def accOf (V : (n : Nat) → n < 32 → Vec Ideal S1x128x256 .fp8e4m3) (X : (n : Nat) → n < 32 → Vec Ideal S256x256 .fp8e4m3) (n : Nat) : n ≤ 32 → Vec Ideal S128x256 .f32 :=
  Nat.rec (motive := fun n => n ≤ 32 → Vec Ideal S128x256 .f32) (fun _ => k0_pay7 (F := Ideal))
    (fun n ih h => addf (F := Ideal) (φ := .f32) (ih (Nat.le_of_succ_le h)) (dotp (V n h) (X n h))) n

def accf (c : Dev nD) (t : Fin cfg0.N) : Vec Ideal S128x256 .f32 :=
  accOf (fun n h => rd (ms0_5 t) (hs0_5 t) (iblk m c 5 t) (Rect.unit (s := S1x128x8192) ![0, 0, 256 * n] ![1, 128, 256] (inb_v h)))
    (back (exf m c t)) 32 le_rfl

def rowv (c : Dev nD) (t : Fin cfg0.N) : Vec Ideal S1x1x128 .f32 :=
  rd (ms0_6 t) (hs0_6 t) (iblk m c 6 t) (Rect.unit (s := S1x8x128) ![0, 0, 0] S1x1x128.size inb_S1x8x128_S1x1x128_0_0_0)

theorem raw10 (c : Dev nD) (t : Fin cfg0.N) (h : ¬ t.val % 321 = 0) :
    ((outsAt0 m c t.val t.isLt).2.1 : Vec Ideal S256x128 .f32)
      = View.canon [⟨Rect.unit (s := S256x128) ![0, 0] S256x128.size inb_S256x128_S256x128_0_0,
          k0_pay1211 (F := Ideal) (den (exf m c t) 256 le_rfl) (accf m c t) (rowv m c t)⟩] := by
  rw [outsAt0_B m c t h]
  dsimp only
  unfold out0_B_10
  rw [View.read_writes_junk_eq_canon]
  refine congrArg View.canon ?_
  sl_kernel_rfl

theorem raw9 (c : Dev nD) (t : Fin cfg0.N) (h : ¬ t.val % 321 = 0) :
    ((outsAt0 m c t.val t.isLt).1 : Vec Ideal S256x128 .bf16)
      = View.canon [⟨Rect.unit (s := S256x128) ![0, 0] S256x128.size inb_S256x128_S256x128_0_0,
          k0_pay1212 (F := Ideal) (den (exf m c t) 256 le_rfl) (accf m c t) (rowv m c t)⟩] := by
  rw [outsAt0_B m c t h]
  dsimp only
  unfold out0_B_9
  rw [View.read_writes_junk_eq_canon]
  refine congrArg View.canon ?_
  sl_kernel_rfl

theorem raw11 (c : Dev nD) (t : Fin cfg0.N) (h : ¬ t.val % 321 = 0) :
    ((outsAt0 m c t.val t.isLt).2.2.1 : Vec Ideal S1x1x256 .f32)
      = View.canon [⟨Rect.unit (s := S1x1x256) ![0, 0, 0] S1x1x256.size inb_S1x1x256_S1x1x256_0_0_0,
          k0_pay1 (F := Ideal) (k0_pay1213 (shf m c t) (k0_pay1210 (den (exf m c t) 256 le_rfl))
            (rd (ms0_7 t) (hs0_7 t) (iblk m c 7 t) (Rect.unit (s := S256x128) ![0, 0] S256x128.size inb_S256x128_S256x128_0_0))
            (rd (ms0_8 t) (hs0_8 t) (iblk m c 8 t) (Rect.unit (s := S1x8x128) ![0, 0, 0] S1x1x128.size inb_S1x8x128_S1x1x128_0_0_0)))⟩] := by
  rw [outsAt0_B m c t h]
  dsimp only
  unfold out0_B_11
  rw [View.read_writes_junk_eq_canon]
  refine congrArg View.canon ?_
  sl_kernel_rfl

end Cert.Proof.AttnKernel

end
-- ==== Proof.AttnSpec.lean ====
/-
  The attention written out at an index, over the extended reals: what both the tiled kernel and the reference are shown to
  compute. Heads of both batches are numbered together, batch first. A query's score against a key is the product of their
  codes plus the query's correction, times both scales; the exponentials of the scores less their largest, rounded up, are
  clipped and multiplied with the values, and divided by their sum.
-/
module

public import proofs.«01_k».proof.Defs
public import Idealize.ShloMosaic.Lib.Pipeline.ValueKit
public import Idealize.ShloMosaic.Lib.Pointwise

@[expose] public section

set_option maxRecDepth 16384

noncomputable section

namespace Cert.Proof.Attn

open Idealize.ShloMosaic

/-- 448, the largest magnitude that a clipped value keeps. -/
def fmax : EReal := Ideal.ofBits FTy.f32 0x43E00000#32

/-- A clipped value. -/
def clp (x : EReal) : EReal := min fmax (max (Ideal.ofBits FTy.f32 0xC3E00000#32) x)

/-- 1/√128 and log₂ e. -/
def sm : EReal := (((Real.sqrt 128)⁻¹ : ℝ) : EReal)
def l2e : EReal := (((Real.log 2)⁻¹ : ℝ) : EReal)

/-- The largest score, rounded up. -/
def top (s : Fin 8192 → EReal) : EReal := Ideal.liftRound Int.ceil (Finset.univ.sup s)

/-- The exponential of a score. -/
def ex (s : Fin 8192 → EReal) (r : Fin 8192) : EReal := Ideal.exp2 (s r - top s)

/-- The sum of the exponentials. -/
def den (s : Fin 8192 → EReal) : EReal := ∑ r, ex s r

/-- The exponentials' product with one lane of the values, over their sum. -/
def att (s v : Fin 8192 → EReal) (vs : EReal) : EReal :=
  (∑ r, clp (ex s r * fmax) * v r) * Ideal.div vs (den s * fmax)

/-- The logarithm of the sum of the exponentials, with what the mean key adds. -/
def lse (s : Fin 8192 → EReal) (qk : EReal) : EReal :=
  Ideal.ofBits FTy.f32 0x3F317218#32 * (top s + Ideal.div (Ideal.log (den s)) (Ideal.log (Ideal.ofBits FTy.f32 0x40000000#32)))
    + sm * qk - Ideal.ofBits FTy.f32 0x41102CB3#32

section

variable (qa : (⟨2, ![16384, 1280]⟩ : Shape).Idx → EReal) (qr : (⟨3, ![2, 8, 8192]⟩ : Shape).Idx → EReal)
  (kc : (⟨3, ![10, 8192, 128]⟩ : Shape).Idx → EReal) (aug : (⟨4, ![10, 4, 8192, 128]⟩ : Shape).Idx → EReal)
  (ks : (⟨3, ![10, 1024, 128]⟩ : Shape).Idx → EReal) (vt : (⟨3, ![10, 128, 8192]⟩ : Shape).Idx → EReal)
  (vs : (⟨3, ![10, 8, 128]⟩ : Shape).Idx → EReal) (q : (⟨2, ![16384, 640]⟩ : Shape).Idx → EReal)
  (st : (⟨3, ![2, 8, 640]⟩ : Shape).Idx → EReal)

/-- The score of key `r` against query `t` of head `g`. -/
def score (g : Fin 10) (t r : Fin 8192) : EReal :=
  ((∑ k : Fin 128, qa (ix2 ⟨g.val / 5 * 8192 + t.val, by omega⟩ ⟨g.val % 5 * 256 + k.val, by omega⟩) * kc (ix3 g r k))
    + ∑ k : Fin 128, qa (ix2 ⟨g.val / 5 * 8192 + t.val, by omega⟩ ⟨g.val % 5 * 256 + (128 + k.val), by omega⟩)
        * aug (ix4 g ⟨t.val / 2048, by omega⟩ r k))
    * qr (ix3 ⟨g.val / 5, by omega⟩ ⟨g.val % 5, by omega⟩ t)
    * ks (ix3 g ⟨r.val / 64 * 8 + r.val % 8, by omega⟩ ⟨t.val % 128, by omega⟩) * sm * l2e

/-- A query's product with the mean key of its head. -/
def qk (g : Fin 10) (t : Fin 8192) : EReal :=
  ∑ d : Fin 128, q (ix2 ⟨g.val / 5 * 8192 + t.val, by omega⟩ ⟨g.val % 5 * 128 + d.val, by omega⟩)
    * st (ix3 ⟨g.val / 5, by omega⟩ 0 ⟨g.val % 5 * 128 + d.val, by omega⟩)

/-- One element of the attention. -/
def elem (g : Fin 10) (t : Fin 8192) (d : Fin 128) : EReal :=
  att (score qa qr kc aug ks g t) (fun r => vt (ix3 g d r)) (vs (ix3 g 0 d))

/-- The first result: the attention, heads first. -/
def res9 : (⟨2, ![81920, 128]⟩ : Shape).Idx → EReal := fun i =>
  have h0 : (i 0).val < 81920 := (i 0).isLt
  elem qa qr kc aug ks vt vs ⟨(i 0).val / 8192, by omega⟩ ⟨(i 0).val % 8192, by omega⟩ (i 1)

/-- The second result: the attention, tokens first. -/
def res10 : (⟨2, ![16384, 640]⟩ : Shape).Idx → EReal := fun i =>
  have h0 : (i 0).val < 16384 := (i 0).isLt
  have h1 : (i 1).val < 640 := (i 1).isLt
  elem qa qr kc aug ks vt vs ⟨(i 0).val / 8192 * 5 + (i 1).val / 128, by omega⟩ ⟨(i 0).val % 8192, by omega⟩ ⟨(i 1).val % 128, by omega⟩

/-- The third result: the logarithms. -/
def res11 : (⟨3, ![10, 1, 8192]⟩ : Shape).Idx → EReal := fun i =>
  lse (score qa qr kc aug ks (i 0) (i 2)) (qk q st (i 0) (i 2))

end

end Cert.Proof.Attn

end
-- ==== Proof.AttnAlgebra.lean ====
/-
  The attention's arithmetic over the extended reals: lifting the exponentials by 448 before they are clipped and summed, as
  the kernel does, is scaling them by 448 afterwards, as the reference does.
-/
module

public import proofs.«01_k».proof.Proof.AttnSpec

@[expose] public section

noncomputable section

namespace Cert.Proof.Attn

open Idealize.ShloMosaic

/-- The logarithm to base two of 448. -/
def lift : EReal := (((Real.log 448) * (Real.log 2)⁻¹ : ℝ) : EReal)

theorem fmax_eq : fmax = ((448 : ℝ) : EReal) := by
  unfold fmax
  simp [Ideal.ofBits, Ideal.ieee]
  rw [← EReal.coe_mul]
  norm_num

theorem two_eq : Ideal.ofBits FTy.f32 0x40000000#32 = ((2 : ℝ) : EReal) := by
  simp [Ideal.ofBits, Ideal.ieee]
  rw [← EReal.coe_mul]
  norm_num

theorem one_eq : Ideal.ofBits FTy.f32 0x3F800000#32 = 1 := by
  simp [Ideal.ofBits, Ideal.ieee]
  rw [← EReal.coe_mul]
  norm_num

theorem log_two_ne : Real.log 2 ≠ 0 := (Real.log_pos (by norm_num)).ne'

theorem sub_lift (x t : EReal) (l : ℝ) : x - (t - (l : EReal)) = (x - t) + (l : EReal) := by
  induction t with
  | bot => induction x <;> simp
  | top => induction x <;> simp
  | coe t =>
    induction x with
    | bot => rfl
    | top => rfl
    | coe x => norm_cast; ring

theorem exp2_add (x : EReal) : Ideal.exp2 (x + lift) = Ideal.exp2 x * fmax := by
  rw [fmax_eq, lift]
  induction x with
  | bot => simp
  | top => rw [EReal.top_add_coe, Ideal.exp2_top, EReal.top_mul_coe_of_pos (by norm_num)]
  | coe x =>
    rw [← EReal.coe_add, Ideal.exp2_coe, Ideal.exp2_coe, ← EReal.coe_mul]
    refine congrArg _ ?_
    show (2 : ℝ) ^ (x + Real.log 448 * (Real.log 2)⁻¹) = 2 ^ x * 448
    rw [Real.rpow_add (by norm_num), Real.rpow_def_of_pos (by norm_num : (0 : ℝ) < 2) (_ * _), mul_comm (Real.log 2), mul_assoc,
      inv_mul_cancel₀ log_two_ne, mul_one, Real.exp_log (by norm_num)]

/-- A lifted exponential. -/
theorem exp2_lift (x t : EReal) : Ideal.exp2 (x - (t - lift)) = Ideal.exp2 (x - t) * fmax := by
  rw [← exp2_add]
  exact congrArg _ (sub_lift x t _)

theorem exp2_nonneg (x : EReal) : 0 ≤ Ideal.exp2 x := by
  induction x with
  | bot => exact le_rfl
  | top => exact le_top
  | coe x => exact EReal.coe_nonneg.2 (Real.rpow_nonneg (by norm_num) x)

/-- The lifted sum. -/
theorem den_lift (s : Fin 8192 → EReal) : (∑ r, ex s r * fmax) = den s * fmax := by
  unfold den
  have h (S : Finset (Fin 8192)) : (∑ r ∈ S, ex s r * fmax) = (∑ r ∈ S, ex s r) * fmax := by
    induction S using Finset.induction_on with
    | empty => simp
    | insert a S ha ih =>
      rw [Finset.sum_insert ha, Finset.sum_insert ha, ih,
        EReal.right_distrib_of_nonneg (a := ex s a) (b := ∑ r ∈ S, ex s r) (exp2_nonneg _) (Finset.sum_nonneg fun r _ => exp2_nonneg _)]
  exact h _

theorem den_nonneg (s : Fin 8192 → EReal) : 0 ≤ den s := Finset.sum_nonneg fun r _ => exp2_nonneg _

theorem clp_zero : clp 0 = 0 := by
  have h : Ideal.ofBits FTy.f32 0xC3E00000#32 = ((-448 : ℝ) : EReal) := by
    simp [Ideal.ofBits, Ideal.ieee]
    rw [← EReal.coe_mul]
    norm_num
  unfold clp
  rw [fmax_eq, h, max_eq_right (by exact_mod_cast (by norm_num : (-448 : ℝ) ≤ 0)), min_eq_right (by exact_mod_cast (by norm_num : (0 : ℝ) ≤ 448))]

/-- The quotient taken before the values' scale, or after. -/
theorem att_eq (s v : Fin 8192 → EReal) (vs : EReal) :
    (∑ r, v r * clp (ex s r * fmax)) * Ideal.div 1 (den s * fmax) * vs = att s v vs := by
  unfold att
  simp only [mul_comm (v _)]
  by_cases h : den s * fmax = 0
  · have hd : den s = 0 := by
      rcases mul_eq_zero.1 h with h | h
      · exact h
      · rw [fmax_eq] at h
        exact absurd h (by exact_mod_cast (by norm_num : (448 : ℝ) ≠ 0))
    have he (r : Fin 8192) : ex s r = 0 := (Finset.sum_eq_zero_iff_of_nonneg fun r _ => exp2_nonneg _).1 hd r (Finset.mem_univ r)
    simp only [he, zero_mul, clp_zero, Finset.sum_const_zero]
  · unfold Ideal.div
    rw [if_neg h, if_neg h, one_mul, mul_assoc, mul_comm vs]

/-- The logarithm of the lifted sum, with the lift taken off the largest score. -/
theorem lse_eq (s : Fin 8192 → EReal) (qk : EReal) :
    Ideal.ofBits FTy.f32 0x3F317218#32 * ((top s - lift) + Ideal.div (Ideal.log (den s * fmax)) (Ideal.log (Ideal.ofBits FTy.f32 0x40000000#32)))
      + sm * qk - Ideal.ofBits FTy.f32 0x41102CB3#32 = lse s qk := by
  unfold lse
  suffices h : (top s - lift) + Ideal.div (Ideal.log (den s * fmax)) (Ideal.log (Ideal.ofBits FTy.f32 0x40000000#32))
      = top s + Ideal.div (Ideal.log (den s)) (Ideal.log (Ideal.ofBits FTy.f32 0x40000000#32)) by rw [h]
  have hd := den_nonneg s
  have hl : Ideal.log ((2 : ℝ) : EReal) = ((Real.log 2 : ℝ) : EReal) := by
    rw [Ideal.log_coe, if_neg (by norm_num)]
  have hl0 : ((Real.log 2 : ℝ) : EReal) ≠ 0 := by exact_mod_cast log_two_ne
  have hp : 0 < (Real.log 2)⁻¹ := inv_pos.2 (Real.log_pos (by norm_num))
  rw [two_eq, hl, fmax_eq]
  unfold Ideal.div
  rw [if_neg hl0, if_neg hl0, ← EReal.coe_inv]
  generalize top s = t
  generalize den s = d at hd ⊢
  unfold lift
  induction d with
  | bot => exact absurd hd (by simp)
  | top =>
    rw [EReal.top_mul_coe_of_pos (by norm_num), Ideal.log_top, EReal.top_mul_coe_of_pos hp]
    induction t <;> rfl
  | coe d =>
    have hd' : 0 ≤ d := EReal.coe_nonneg.1 hd
    rw [← EReal.coe_mul, Ideal.log_coe, Ideal.log_coe]
    rcases hd'.eq_or_lt with rfl | hd'
    · rw [zero_mul, if_pos le_rfl, EReal.bot_mul_coe_of_pos hp, EReal.add_bot, EReal.add_bot]
    · rw [if_neg (by linarith [mul_pos hd' (by norm_num : (0 : ℝ) < 448)]), if_neg (not_le.2 hd'), Real.log_mul hd'.ne' (by norm_num), ← EReal.coe_mul, ← EReal.coe_mul]
      induction t with
      | bot => rfl
      | top => rfl
      | coe t => norm_cast; ring

end Cert.Proof.Attn

end
-- ==== Proof.AttnBlock.lean ====
/-
  The attention of one block of queries, from the scores and maxima in scratch: the output blocks' values, as the equations of
  the plain attention.
-/
module

public import proofs.«01_k».proof.Proof.AttnPoint
public import proofs.«01_k».proof.Proof.AttnAlgebra

@[expose] public section

set_option maxRecDepth 16384

noncomputable section

namespace Cert.Proof.AttnKernel

open Idealize.ShloMosaic Idealize.SL.Sem Cert.AttentionIdeal Cert.AttentionIdeal.Gen Idealize.ShloMosaic.TcCoe
open Idealize.ShloMosaic.Pipeline (Dat Cfg Window)

theorem pay4_apply (v : Vec Ideal S1x256 .f32) (b : Fin 8) (j : Fin 256) : k0_pay4 (F := Ideal) v (ix2 b j) = v (ix2 0 j) - Attn.lift := by
  pointwise [k0_pay4]
  rfl

theorem pay1210_apply (v : FVec Ideal S8x256 .f32) (j : Fin 256) : k0_pay1210 (F := Ideal) v (ix2 0 j) = ∑ b : Fin 8, v (ix2 b j) := by
  pointwise [k0_pay1210]

theorem pay1211_apply (D : FVec Ideal S8x256 .f32) (A : FVec Ideal S128x256 .f32) (R : Vec Ideal S1x1x128 .f32) (j : Fin 256) (d : Fin 128) :
    k0_pay1211 (F := Ideal) D A R (ix2 j d) = A (ix2 d j) * Ideal.div 1 (∑ b : Fin 8, D (ix2 b j)) * R (ix3 0 0 d) := by
  rw [← pay1210_apply, ← Attn.one_eq]
  unfold k0_pay1211
  generalize k0_pay1210 (F := Ideal) D = T
  pointwise

theorem pay1213_apply (w : FVec Ideal S8x256 .f32) (T : FVec Ideal S1x256 .f32) (q : Vec Ideal S256x128 .f32) (st : Vec Ideal S1x1x128 .f32) (j : Fin 256) :
    k0_pay1 (F := Ideal) (k0_pay1213 w T q st) (ix3 0 0 j)
      = Ideal.ofBits FTy.f32 0x3F317218#32
          * (w (ix2 0 j) + Ideal.div (Ideal.log (T (ix2 0 j))) (Ideal.log (Ideal.ofBits FTy.f32 0x40000000#32)))
        + Attn.sm * (∑ d : Fin 128, q (ix2 j d) * st (ix3 0 0 d)) - Ideal.ofBits FTy.f32 0x41102CB3#32 := by
  pointwise [k0_pay1, k0_pay1213]
  rfl

/-- The queries' scale of the head the selection picks. -/
theorem pay6_apply (v : IVec S8x256 1) (x : Vec Ideal S1x8x256 .f32) (b : Fin 8) (j : Fin 256) (h : Fin 8)
    (hv : ∀ a : Fin 8, v (ix2 a j) = if a = h then 1#1 else 0#1) :
    k0_pay6 (F := Ideal) v x (ix2 b j) = x (ix3 0 h j) * (Attn.sm * Attn.l2e) := by
  have e : k0_pay6 (F := Ideal) v x (ix2 b j) = (∑ a : Fin 8, if v (ix2 a j) = 1#1 then x (ix3 0 a j) else 0) * (Attn.sm * Attn.l2e) := by
    have hs : Attn.sm * Attn.l2e = (((Real.sqrt 128)⁻¹ * (Real.log 2)⁻¹ : ℝ) : EReal) := by
      rw [EReal.coe_mul]; rfl
    rw [hs]
    pointwise [k0_pay6]
    rfl
  rw [e]
  refine congrArg (· * _) ?_
  rw [Finset.sum_eq_single h (fun a _ ha => by rw [hv, if_neg ha]; rfl) (fun ha => absurd (Finset.mem_univ h) ha), hv, if_pos rfl, if_pos rfl]

/-- Which row the selection picks: the head of the point's item. -/
theorem pick (t : Fin cfg0.N) : t.val < 320 → ∀ a : Fin 8, k0_pay5 (grid0.coords t) (ix2 a 0) = if a.val = t.val / 32 % 5 then 1#1 else 0#1 :=
  (by decide +kernel : ∀ t : Fin cfg0.N, t.val < 320 → ∀ a : Fin 8,
    k0_pay5 (grid0.coords t) (ix2 a 0) = if a.val = t.val / 32 % 5 then 1#1 else 0#1) t

theorem pay5_apply (t : Fin cfg0.N) (ht : t.val < 320) (a : Fin 8) (j : Fin 256) :
    k0_pay5 (grid0.coords t) (ix2 a j) = if a = ⟨t.val / 32 % 5, by omega⟩ then 1#1 else 0#1 := by
  simp only [Fin.ext_iff]
  refine Eq.trans ?_ (pick t ht a)
  rfl

section block

variable (S : Vec Ideal S8192x256 .f32) (M : Vec Ideal S8x256 .f32) (s : Fin 256 → Fin 8192 → EReal)
  (hS : ∀ r j, S (ix2 r j) = s j r) (hM : ∀ j, M (ix2 0 j) = Attn.top (s j))

/-- A lifted exponential of a block, by its key's number. -/
def keyed (r : Nat) (j : Fin 256) : EReal := if h : r < 8192 then Attn.ex (s j) ⟨r, h⟩ * Attn.fmax else 0

theorem keyed_val (r : Fin 8192) (j : Fin 256) : keyed s r.val j = Attn.ex (s j) r * Attn.fmax := by
  unfold keyed
  rw [dif_pos r.isLt]

/-- The shift of a block. -/
def shift : Vec Ideal S8x256 .f32 :=
  k0_pay4 (F := Ideal) (View.ld M (Rect.unit (s := S8x256) ![0, 0] S1x256.size inb_S8x256_S1x256_0_0))

include hM in
theorem shift_apply (b : Fin 8) (j : Fin 256) : shift M (ix2 b j) = Attn.top (s j) - Attn.lift := by
  unfold shift
  rw [pay4_apply, ← hM]
  refine congrArg (· - _) ?_
  pointwise

include hS hM in
theorem ex_apply (i : Nat) (hi : i < 256) (a : Fin 4) (b : Fin 8) (j : Fin 256) :
    ex S (shift M) i hi (ix3 a b j) = keyed s (32 * i + (a.val * 8 + b.val)) j := by
  have hr : 32 * i + (a.val * 8 + b.val) < 8192 := by omega
  unfold ex keyed
  rw [dif_pos hr, exps_apply, shift_apply M s hM]
  unfold Attn.ex
  rw [← Attn.exp2_lift, ← hS]
  refine congrArg (fun x : EReal => Ideal.exp2 (x - _)) ?_
  pointwise

include hS hM in
/-- The sum of a block's exponentials. -/
theorem tot_apply (j : Fin 256) : (∑ b : Fin 8, den (ex S (shift M)) 256 le_rfl (ix2 b j)) = Attn.den (s j) * Attn.fmax := by
  have h (b : Fin 8) := den_apply (ex S (shift M)) (fun r => keyed s r j) b j (fun i hi a => ex_apply S M s hS hM i hi a b j) 256 le_rfl
  simp only [h]
  rw [sum_keys (fun r => keyed s r j), ← Attn.den_lift]
  simp only [keyed_val]

include hS hM in
/-- The product of a block's exponentials with the values. -/
theorem prod_v (x : Vec Ideal S1x128x8192 .fp8e4m3) (v : Fin 8192 → EReal) (d : Fin 128) (hv : ∀ r, x (ix3 0 d r) = v r) (j : Fin 256) :
    acc x (back (ex S (shift M))) 32 le_rfl (ix2 d j) = ∑ r : Fin 8192, v r * Attn.clp (Attn.ex (s j) r * Attn.fmax) := by
  rw [acc_apply x _ d j (fun r => if h : r < 8192 then v ⟨r, h⟩ else 0) (fun r => clp (keyed s r j))
    (fun r => by rw [dif_pos r.isLt, hv]) (fun n h k => back_apply _ (keyed s) (ex_apply S M s hS hM) n h k j) 32 le_rfl]
  rw [← Fin.sum_univ_eq_sum_range (fun r => (if h : r < 8192 then v ⟨r, h⟩ else 0) * clp (keyed s r j)) 8192]
  refine Finset.sum_congr rfl fun r _ => ?_
  rw [keyed_val, dif_pos r.isLt]
  rfl

include hS hM in
theorem val10 (x : Vec Ideal S1x128x8192 .fp8e4m3) (R : Vec Ideal S1x1x128 .f32) (v : Fin 8192 → EReal) (d : Fin 128) (hv : ∀ r, x (ix3 0 d r) = v r) (j : Fin 256) :
    k0_pay1211 (F := Ideal) (den (ex S (shift M)) 256 le_rfl) (acc x (back (ex S (shift M))) 32 le_rfl) R (ix2 j d)
      = Attn.att (s j) v (R (ix3 0 0 d)) := by
  rw [pay1211_apply, tot_apply S M s hS hM, prod_v S M s hS hM x v d hv, Attn.att_eq]

include hS hM in
theorem val11 (q : Vec Ideal S256x128 .f32) (st : Vec Ideal S1x1x128 .f32) (j : Fin 256) :
    k0_pay1 (F := Ideal) (k0_pay1213 (shift M) (k0_pay1210 (den (ex S (shift M)) 256 le_rfl)) q st) (ix3 0 0 j)
      = Attn.lse (s j) (∑ d : Fin 128, q (ix2 j d) * st (ix3 0 0 d)) := by
  rw [pay1213_apply, pay1210_apply, tot_apply S M s hS hM, shift_apply M s hM, Attn.lse_eq]

end block

end Cert.Proof.AttnKernel

end
-- ==== Proof.AttnFinal.lean ====
/-
  The attention's kernel, its blocks put together: the three result arrays as functions of the argument arrays.
-/
module

public import proofs.«01_k».proof.Proof.AttnBlock
public import proofs.«01_k».proof.Proof.Gen.AttentionIdeal.Value
public import Idealize.ShloMosaic.Lib.Pipeline.ReadBack

@[expose] public section

set_option maxRecDepth 16384

noncomputable section

namespace Cert.Proof.AttnKernel

open Idealize.ShloMosaic Idealize.SL.Sem Cert.AttentionIdeal Cert.AttentionIdeal.Gen Idealize.ShloMosaic.TcCoe
open Idealize.ShloMosaic.Pipeline (Dat Cfg Window)
open Cert.Proof.Attn (res9 res10 res11 elem)

variable (m : (ℓ : Loc nD τ sig) → Buf (Elt Ideal) ℓ)

/-- The argument arrays, named. -/
abbrev A0 (c : Dev nD) : Vec Ideal S16384x1280 .bf16 := m ((c : Thread nD τ).loc main_arg0)
abbrev A1 (c : Dev nD) : Vec Ideal S2x8x8192 .f32 := m ((c : Thread nD τ).loc main_arg1)
abbrev A2 (c : Dev nD) : Vec Ideal S10x8192x128 .bf16 := m ((c : Thread nD τ).loc main_arg2)
abbrev A3 (c : Dev nD) : Vec Ideal S10x4x8192x128 .bf16 := m ((c : Thread nD τ).loc main_arg3)
abbrev A4 (c : Dev nD) : Vec Ideal S10x1024x128 .f32 := m ((c : Thread nD τ).loc main_arg4)
abbrev A5 (c : Dev nD) : Vec Ideal S10x128x8192 .fp8e4m3 := m ((c : Thread nD τ).loc main_arg5)
abbrev A6 (c : Dev nD) : Vec Ideal S10x8x128 .f32 := m ((c : Thread nD τ).loc main_arg6)
abbrev A7 (c : Dev nD) : Vec Ideal S16384x640 .f32 := m ((c : Thread nD τ).loc main_arg7)
abbrev A8 (c : Dev nD) : Vec Ideal S2x8x640 .f32 := m ((c : Thread nD τ).loc main_arg8)

/-- Where the blocks start that a point's scores read. -/
theorem idx (t : Fin cfg0.N) : t.val < 320 → win0_0.index t = ![t.val / 160 * 32 + t.val % 32, t.val / 32 % 5]
      ∧ win0_1.index t = ![t.val / 160, 0, t.val % 32] ∧ win0_2.index t = ![t.val / 32, 0, 0]
      ∧ win0_3.index t = ![t.val / 32, t.val % 32 / 8, 0, 0] ∧ win0_4.index t = ![t.val / 32, 0, 0] :=
  (by decide +kernel : ∀ t : Fin cfg0.N, t.val < 320 → win0_0.index t = ![t.val / 160 * 32 + t.val % 32, t.val / 32 % 5]
      ∧ win0_1.index t = ![t.val / 160, 0, t.val % 32] ∧ win0_2.index t = ![t.val / 32, 0, 0]
      ∧ win0_3.index t = ![t.val / 32, t.val % 32 / 8, 0, 0] ∧ win0_4.index t = ![t.val / 32, 0, 0]) t

/-- Where the other blocks start: those of the item before. -/
theorem idx' (t : Fin cfg0.N) : 0 < t.val → win0_5.index t = ![(t.val - 1) / 32, 0, 0] ∧ win0_6.index t = ![(t.val - 1) / 32, 0, 0]
      ∧ win0_7.index t = ![(t.val - 1) / 160 * 32 + (t.val - 1) % 32, (t.val - 1) / 32 % 5] ∧ win0_8.index t = ![(t.val - 1) / 160, 0, (t.val - 1) / 32 % 5]
      ∧ win0_9.index t = ![t.val - 1, 0] ∧ win0_10.index t = ![(t.val - 1) / 160 * 32 + (t.val - 1) % 32, (t.val - 1) / 32 % 5]
      ∧ win0_11.index t = ![(t.val - 1) / 32, 0, (t.val - 1) % 32] :=
  (by decide +kernel : ∀ t : Fin cfg0.N, 0 < t.val → win0_5.index t = ![(t.val - 1) / 32, 0, 0] ∧ win0_6.index t = ![(t.val - 1) / 32, 0, 0]
      ∧ win0_7.index t = ![(t.val - 1) / 160 * 32 + (t.val - 1) % 32, (t.val - 1) / 32 % 5] ∧ win0_8.index t = ![(t.val - 1) / 160, 0, (t.val - 1) / 32 % 5]
      ∧ win0_9.index t = ![t.val - 1, 0] ∧ win0_10.index t = ![(t.val - 1) / 160 * 32 + (t.val - 1) % 32, (t.val - 1) / 32 % 5]
      ∧ win0_11.index t = ![(t.val - 1) / 32, 0, (t.val - 1) % 32]) t

/-! The blocks that the scores of point `t` read. -/

section first

variable (c : Dev nD) (t : Fin cfg0.N) (h : t.val < 320)

theorem b0 (r k : Fin 256) : (iblk m c 0 t : Vec Ideal S256x256 .bf16) (ix2 r k)
    = A0 m c (ix2 ⟨t.val / 32 / 5 * 8192 + (t.val % 32 * 256 + r.val), by omega⟩ ⟨t.val / 32 % 5 * 256 + k.val, by omega⟩) := by
  blk_ext [iblk, V, idx t h]

theorem b1 (b : Fin 8) (k : Fin 256) : (iblk m c 1 t : Vec Ideal S1x8x256 .f32) (ix3 0 b k)
    = A1 m c (ix3 ⟨t.val / 32 / 5, by omega⟩ b ⟨t.val % 32 * 256 + k.val, by omega⟩) := by
  blk_ext [iblk, V, idx t h]

theorem b2 (r : Fin 8192) (k : Fin 128) : (iblk m c 2 t : Vec Ideal S1x8192x128 .bf16) (ix3 0 r k)
    = A2 m c (ix3 ⟨t.val / 32, by omega⟩ r k) := by
  blk_ext [iblk, V, idx t h]

theorem b3 (r : Fin 8192) (k : Fin 128) : (iblk m c 3 t : Vec Ideal S1x1x8192x128 .bf16) (ix4 0 0 r k)
    = A3 m c (ix4 ⟨t.val / 32, by omega⟩ ⟨t.val % 32 / 8, by omega⟩ r k) := by
  blk_ext [iblk, V, idx t h]

theorem b4 (r : Fin 1024) (k : Fin 128) : (iblk m c 4 t : Vec Ideal S1x1024x128 .f32) (ix3 0 r k)
    = A4 m c (ix3 ⟨t.val / 32, by omega⟩ r k) := by
  blk_ext [iblk, V, idx t h]

/-- The queries' scales. -/
theorem qs_apply (b : Fin 8) (j : Fin 256) : qs m c t (ix2 b j)
    = A1 m c (ix3 ⟨t.val / 32 / 5, by omega⟩ ⟨t.val / 32 % 5, by omega⟩ ⟨t.val % 32 * 256 + j.val, by omega⟩) * (Attn.sm * Attn.l2e) := by
  unfold qs
  rw [pay6_apply _ _ b j ⟨t.val / 32 % 5, by omega⟩ (fun a => pay5_apply t h a j), b1 m c t h]

/-- A key's score in a block is the array's. -/
theorem score_eq (r : Fin 8192) (j : Fin 256) :
    score (iblk m c 0 t) (iblk m c 2 t) (iblk m c 3 t) (iblk m c 4 t) (qs m c t) r j
      = Attn.score (A0 m c) (A1 m c) (A2 m c) (A3 m c) (A4 m c) ⟨t.val / 32, by omega⟩ ⟨t.val % 32 * 256 + j.val, by omega⟩ r := by
  have h3 : (⟨(t.val % 32 * 256 + j.val) / 2048, by omega⟩ : Fin 4) = ⟨t.val % 32 / 8, by omega⟩ := Fin.ext (by dsimp only; omega)
  have h4 : (⟨(t.val % 32 * 256 + j.val) % 128, by omega⟩ : Fin 128) = ⟨j.val % 128, by omega⟩ := Fin.ext (by dsimp only; omega)
  unfold score Attn.score
  simp only [b0 m c t h, b2 m c t h, b3 m c t h, b4 m c t h, qs_apply m c t h, h3, h4]
  simp only [mul_assoc]
  refine congrArg₂ (fun a b : EReal => a * b) (congrArg₂ (fun a b : EReal => a + b) ?_ ?_) (mul_left_comm _ _ _)
  · exact Finset.sum_congr rfl fun k _ => mul_comm _ _
  · exact Finset.sum_congr rfl fun k _ => mul_comm _ _

end first

/-! The blocks that a point's outputs read and write. -/

section second

variable (c : Dev nD) (t : Fin cfg0.N) (h : 0 < t.val) (h' : t.val - 1 < 320)

include h

theorem b5 (d : Fin 128) (r : Fin 8192) : (iblk m c 5 t : Vec Ideal S1x128x8192 .fp8e4m3) (ix3 0 d r)
    = A5 m c (ix3 ⟨(t.val - 1) / 32, by omega⟩ d r) := by
  blk_ext [iblk, V, idx' t h]

theorem b6 (d : Fin 128) : rowv m c t (ix3 0 0 d) = A6 m c (ix3 ⟨(t.val - 1) / 32, by omega⟩ 0 d) := by
  unfold rowv
  rw [rd_eq]
  pointwise
  blk_ext [iblk, V, idx' t h]

theorem b7 (r : Fin 256) (k : Fin 128) : (iblk m c 7 t : Vec Ideal S256x128 .f32) (ix2 r k)
    = A7 m c (ix2 ⟨(t.val - 1) / 32 / 5 * 8192 + ((t.val - 1) % 32 * 256 + r.val), by omega⟩ ⟨(t.val - 1) / 32 % 5 * 128 + k.val, by omega⟩) := by
  blk_ext [iblk, V, idx' t h]

theorem b8 (k : Fin 128) :
    (View.ld (iblk m c 8 t : Vec Ideal S1x8x128 .f32) (Rect.unit (s := S1x8x128) ![0, 0, 0] S1x1x128.size inb_S1x8x128_S1x1x128_0_0_0) : Vec Ideal S1x1x128 .f32) (ix3 0 0 k)
      = A8 m c (ix3 ⟨(t.val - 1) / 32 / 5, by omega⟩ 0 ⟨(t.val - 1) / 32 % 5 * 128 + k.val, by omega⟩) := by
  pointwise
  blk_ext [iblk, V, idx' t h]

theorem e9 (r : Fin 256) (d : Fin 128) :
    ((View.whole main_v0_0).slice (win0_9.rect t)).emb (ix2 (n0 := 256) (n1 := 128) r d)
      = ix2 (n0 := 81920) (n1 := 128) ⟨256 * (t.val - 1) + r.val, by omega⟩ d := by
  blk_ext [idx' t h]

theorem e10 (r : Fin 256) (d : Fin 128) :
    ((View.whole main_v0_1).slice (win0_10.rect t)).emb (ix2 (n0 := 256) (n1 := 128) r d)
      = ix2 (n0 := 16384) (n1 := 640) ⟨(t.val - 1) / 32 / 5 * 8192 + ((t.val - 1) % 32 * 256 + r.val), by omega⟩ ⟨(t.val - 1) / 32 % 5 * 128 + d.val, by omega⟩ := by
  blk_ext [idx' t h]

theorem e11 (a b : Fin 1) (r : Fin 256) :
    ((View.whole main_v0_2).slice (win0_11.rect t)).emb (ix3 (n0 := 1) (n1 := 1) (n2 := 256) a b r)
      = ix3 (n0 := 10) (n1 := 1) (n2 := 8192) ⟨(t.val - 1) / 32, by omega⟩ 0 ⟨(t.val - 1) % 32 * 256 + r.val, by omega⟩ := by
  blk_ext [idx' t h]

end second

section block

variable (c : Dev nD) (t : Fin cfg0.N)

theorem item_lt : t.val - 1 < 320 := by
  have h : t.val < 321 := t.isLt
  omega

/-- The scores of query `j` of the block that point `t` writes. -/
def sc (j : Fin 256) : Fin 8192 → EReal :=
  Attn.score (A0 m c) (A1 m c) (A2 m c) (A3 m c) (A4 m c) ⟨(t.val - 1) / 32, by have := item_lt t; omega⟩ ⟨(t.val - 1) % 32 * 256 + j.val, by omega⟩

theorem S0_apply (r : Fin 8192) (j : Fin 256) : S0 m c t (ix2 r j) = sc m c t j r := by
  have ht := item_lt t
  unfold sc
  rw [← score_eq m c ⟨t.val - 1, Nat.lt_of_le_of_lt (Nat.sub_le _ _) t.isLt⟩ ht r j]
  exact congrFun (scores_point m c ⟨t.val - 1, Nat.lt_of_le_of_lt (Nat.sub_le _ _) t.isLt⟩) (ix2 r j)

theorem M0_apply (j : Fin 256) : M0 m c t (ix2 0 j) = Attn.top (sc m c t j) := by
  have ht := item_lt t
  refine (congrFun (tops_point m c ⟨t.val - 1, Nat.lt_of_le_of_lt (Nat.sub_le _ _) t.isLt⟩) (ix2 0 j)).trans ?_
  unfold Attn.top sc
  refine congrArg _ (congrArg _ (funext fun r => ?_))
  exact score_eq m c ⟨t.val - 1, Nat.lt_of_le_of_lt (Nat.sub_le _ _) t.isLt⟩ ht r j

theorem shf_eq : shf m c t = shift (M0 m c t) := by
  unfold shf shift
  rw [rd_eq]

theorem exf_eq : exf m c t = ex (S0 m c t) (shift (M0 m c t)) := by
  funext n hn
  unfold exf ex
  rw [rd_eq, shf_eq]

theorem accf_eq : accf m c t = acc (iblk m c 5 t) (back (ex (S0 m c t) (shift (M0 m c t)))) 32 le_rfl := by
  unfold accf
  rw [exf_eq]
  simp only [rd_eq]
  rfl

/-- One element of the attention's block. -/
theorem elem_eq (h : 0 < t.val) (h' : t.val - 1 < 320) (j : Fin 256) (d : Fin 128) :
    k0_pay1211 (F := Ideal) (den (exf m c t) 256 le_rfl) (accf m c t) (rowv m c t) (ix2 j d)
      = elem (A0 m c) (A1 m c) (A2 m c) (A3 m c) (A4 m c) (A5 m c) (A6 m c) ⟨(t.val - 1) / 32, by omega⟩ ⟨(t.val - 1) % 32 * 256 + j.val, by omega⟩ d := by
  rw [exf_eq, accf_eq, val10 (S0 m c t) (M0 m c t) (sc m c t) (S0_apply m c t) (M0_apply m c t) (iblk m c 5 t) (rowv m c t) _ d (fun r => b5 m c t h h' d r) j,
    b6 m c t h h']
  rfl

theorem blk11 (h : 0 < t.val) (h' : t.val - 1 < 320) (j : Fin 256) :
    k0_pay1 (F := Ideal) (k0_pay1213 (shf m c t) (k0_pay1210 (den (exf m c t) 256 le_rfl))
        (rd (ms0_7 t) (hs0_7 t) (iblk m c 7 t) (Rect.unit (s := S256x128) ![0, 0] S256x128.size inb_S256x128_S256x128_0_0))
        (rd (ms0_8 t) (hs0_8 t) (iblk m c 8 t) (Rect.unit (s := S1x8x128) ![0, 0, 0] S1x1x128.size inb_S1x8x128_S1x1x128_0_0_0))) (ix3 0 0 j)
      = res11 (A0 m c) (A1 m c) (A2 m c) (A3 m c) (A4 m c) (A7 m c) (A8 m c) (ix3 ⟨(t.val - 1) / 32, by omega⟩ 0 ⟨(t.val - 1) % 32 * 256 + j.val, by omega⟩) := by
  rw [shf_eq, exf_eq, val11 (S0 m c t) (M0 m c t) (sc m c t) (S0_apply m c t) (M0_apply m c t), rd_eq, rd_eq, View.ld_unit_zero (by decide)]
  simp only [b7 m c t h h', b8 m c t h h']
  rfl

end block

/-- No block is written back at the first point. -/
theorem flush_pos : ∀ t : Fin cfg0.N, (win0_9.flush t = true ∨ win0_10.flush t = true ∨ win0_11.flush t = true) → 0 < t.val := by
  decide +kernel

/-- The first result: the attention, heads first. -/
theorem fin9 (c : Dev nD) : (dats m 0 c).arrAt 9 cfg0.N = res9 (A0 m c) (A1 m c) (A2 m c) (A3 m c) (A4 m c) (A5 m c) (A6 m c) := by
  refine (dats m 0 c).arrAt_eq_of_covers 9 _ (by decide +kernel) fun t hf y => ?_
  have h := flush_pos t (.inl hf)
  have h' := item_lt t
  blk_simp
  rw [after0_9]
  obtain ⟨r, d, rfl⟩ : ∃ (a : Fin 256) (b : Fin 128), y = ix2 a b := ⟨y 0, y 1, eq_ix2 y⟩
  rw [e9 t h h']
  refine (congrFun (raw9 m c t (by omega)) (ix2 r d)).trans ?_
  refine (congrFun (View.canon_cons_unit_zero (S := S256x128) (by decide) _ _ _) (ix2 r d)).trans ?_
  refine (elem_eq m c t h h' r d).trans ?_
  unfold res9
  have hr := r.isLt
  refine congrArg₂ (fun a b => elem (A0 m c) (A1 m c) (A2 m c) (A3 m c) (A4 m c) (A5 m c) (A6 m c) a b d) (Fin.ext ?_) (Fin.ext ?_)
  · show (t.val - 1) / 32 = (256 * (t.val - 1) + r.val) / 8192
    omega
  · show (t.val - 1) % 32 * 256 + r.val = (256 * (t.val - 1) + r.val) % 8192
    omega

/-- The second result: the attention, tokens first. -/
theorem fin10 (c : Dev nD) : (dats m 0 c).arrAt 10 cfg0.N = res10 (A0 m c) (A1 m c) (A2 m c) (A3 m c) (A4 m c) (A5 m c) (A6 m c) := by
  refine (dats m 0 c).arrAt_eq_of_covers 10 _ (by decide +kernel) fun t hf y => ?_
  have h := flush_pos t (.inr (.inl hf))
  have h' := item_lt t
  blk_simp
  rw [after0_10]
  obtain ⟨r, d, rfl⟩ : ∃ (a : Fin 256) (b : Fin 128), y = ix2 a b := ⟨y 0, y 1, eq_ix2 y⟩
  rw [e10 t h h']
  refine (congrFun (raw10 m c t (by omega)) (ix2 r d)).trans ?_
  refine (congrFun (View.canon_cons_unit_zero (S := S256x128) (by decide) _ _ _) (ix2 r d)).trans ?_
  refine (elem_eq m c t h h' r d).trans ?_
  unfold res10
  have hr := r.isLt
  have hd := d.isLt
  dsimp only
  congr 1 <;> refine Fin.ext ?_
  · show (t.val - 1) / 32 = ((t.val - 1) / 32 / 5 * 8192 + ((t.val - 1) % 32 * 256 + r.val)) / 8192 * 5 + ((t.val - 1) / 32 % 5 * 128 + d.val) / 128
    omega
  · show (t.val - 1) % 32 * 256 + r.val = ((t.val - 1) / 32 / 5 * 8192 + ((t.val - 1) % 32 * 256 + r.val)) % 8192
    omega
  · show d.val = ((t.val - 1) / 32 % 5 * 128 + d.val) % 128
    omega

/-- The third result: the logarithms. -/
theorem fin11 (c : Dev nD) : (dats m 0 c).arrAt 11 cfg0.N = res11 (A0 m c) (A1 m c) (A2 m c) (A3 m c) (A4 m c) (A7 m c) (A8 m c) := by
  refine (dats m 0 c).arrAt_eq_of_covers 11 _ (by decide +kernel) fun t hf y => ?_
  have h := flush_pos t (.inr (.inr hf))
  have h' := item_lt t
  blk_simp
  rw [after0_11]
  obtain ⟨a, b, r, rfl⟩ : ∃ (a : Fin 1) (b : Fin 1) (s : Fin 256), y = ix3 a b s := ⟨y 0, y 1, y 2, eq_ix3 y⟩
  obtain rfl := Subsingleton.elim 0 a
  obtain rfl := Subsingleton.elim 0 b
  rw [e11 t h h']
  refine (congrFun (raw11 m c t (by omega)) (ix3 0 0 r)).trans ?_
  refine (congrFun (View.canon_cons_unit_zero (S := S1x1x256) (by decide) _ _ _) (ix3 0 0 r)).trans ?_
  exact blk11 m c t h h' r

variable (ρ : Dev nD → PrngReg)

/-- The kernel's run: its three results, and its arguments unchanged. -/
theorem run_all : θ_run defs (onTc (τ := τ) (main (F := Ideal))) ⟨m, fun _ => 0, ρ⟩ fun r => ∀ c : Dev nD,
      r.2.mem ((c : Thread nD τ).loc main_v0_0) = res9 (A0 m c) (A1 m c) (A2 m c) (A3 m c) (A4 m c) (A5 m c) (A6 m c)
      ∧ r.2.mem ((c : Thread nD τ).loc main_v0_1) = res10 (A0 m c) (A1 m c) (A2 m c) (A3 m c) (A4 m c) (A5 m c) (A6 m c)
      ∧ r.2.mem ((c : Thread nD τ).loc main_v0_2) = res11 (A0 m c) (A1 m c) (A2 m c) (A3 m c) (A4 m c) (A7 m c) (A8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (fin9 m c), (h c).2.1.trans (fin10 m c), (h c).2.2.1.trans (fin11 m c), (h c).2.2.2⟩)
    (Value.run_blocks m ρ)

end Cert.Proof.AttnKernel

end
-- ==== Proof.AttnRef.lean ====
/-
  The reference of the attention, run: its three result arrays as functions of its argument arrays.
-/
module

public import proofs.«01_k».proof.Proof.AttnSpec
public import proofs.«01_k».proof.Proof.Gen.AttentionRefIdeal.Frame
public import Idealize.ShloMosaic.Lib.Pipeline.ValueKit
public import Idealize.ShloMosaic.Lib.Pipeline.ReadBack

@[expose] public section

set_option maxRecDepth 16384

noncomputable section

namespace Cert.Proof.AttnRef

open Idealize.ShloMosaic Idealize.SL.Sem Cert.AttentionRefIdeal Cert.AttentionRefIdeal.Gen Idealize.ShloMosaic.TcCoe
open Idealize.ShloMosaic.Pipeline (Dat Cfg Window)
open Cert.Proof.Attn

/-- The scores. -/
theorem pay2_apply (qa : Vec Ideal S16384x1280 .bf16) (aug : Vec Ideal S10x4x8192x128 .bf16) (kc : Vec Ideal S10x8192x128 .bf16)
    (qr : Vec Ideal S2x8x8192 .f32) (ks : Vec Ideal S10x1024x128 .f32) (g : Fin 10) (t r : Fin 8192) :
    k0_pay2 (F := Ideal) qa aug kc qr ks (ix3 g t r) = score qa qr kc aug ks g t r := by
  have hg : (⟨(g.val * 4 + t.val / 2048) % 4, by omega⟩ : Fin 4) = ⟨t.val / 2048, by omega⟩ := Fin.ext (by dsimp only; omega)
  unfold k0_pay2 score
  pointwise
  simp only [hg]
  rfl

theorem ofBits_neg_inf : Ideal.ofBits FTy.f32 4286578688#32 = ⊥ := by
  simp [Ideal.ofBits, Ideal.ieee]

/-- The largest of a family, as the folds from −∞ give it. -/
theorem fold_max {ι : Type} [Fintype ι] (f : ι → EReal) : Finset.fold max (Ideal.ofBits FTy.f32 4286578688#32) f Finset.univ = Finset.univ.sup f := by
  rw [ofBits_neg_inf]
  rfl

/-- The largest score over any scores. -/
theorem max_apply (w : FVec Ideal S10x8192x8192 .f32) (g : Fin 10) (t : Fin 8192) :
    multiReduction (F := Ideal) (φ := .f32) .maximumf [2] S10x8192 w 0xFF800000#32 reduces_S10x8192x8192_S10x8192 (.inl rfl) rfl (ix2 g t)
      = Finset.univ.sup (fun r : Fin 8192 => w (ix3 g t r)) := by
  pointwise
  exact fold_max _

/-- Any column, rounded up. -/
theorem ceil_apply (v : FVec Ideal S10x8192 .f32) (g : Fin 10) (t : Fin 8192) :
    (have v36 : FVec Ideal S10x8192x1 .f32 := shapeCast S10x8192x1 v shapeCasts_S10x8192_S10x8192x1
     have v37 : FVec Ideal S10x8192x1 .f32 := ceil v36
     v37) (ix3 g t 0) = Ideal.liftRound Int.ceil (v (ix2 g t)) := by
  pointwise

theorem pay3_apply (qa : Vec Ideal S16384x1280 .bf16) (aug : Vec Ideal S10x4x8192x128 .bf16) (kc : Vec Ideal S10x8192x128 .bf16)
    (qr : Vec Ideal S2x8x8192 .f32) (ks : Vec Ideal S10x1024x128 .f32) (g : Fin 10) (t : Fin 8192) :
    k0_pay3 (F := Ideal) qa aug kc qr ks (ix3 g t 0) = top (score qa qr kc aug ks g t) := by
  refine (ceil_apply (multiReduction (F := Ideal) .maximumf [2] S10x8192 (k0_pay2 qa aug kc qr ks) 0xFF800000#32
    reduces_S10x8192x8192_S10x8192 (.inl rfl) rfl) g t).trans ?_
  rw [max_apply]
  simp only [pay2_apply]
  rfl

/-- Any scores less any largest. -/
theorem sub_apply (w : FVec Ideal S10x8192x8192 .f32) (v : FVec Ideal S10x8192x1 .f32) (g : Fin 10) (t r : Fin 8192) :
    (have v38 : FVec Ideal S10x8192x8192 .f32 := broadcastTo S10x8192x8192 v broadcasts_S10x8192x1_S10x8192x8192
     have v39 : FVec Ideal S10x8192x8192 .f32 := subf w v38
     v39) (ix3 g t r) = w (ix3 g t r) - v (ix3 g t 0) := by
  pointwise

theorem pay4_apply (qa : Vec Ideal S16384x1280 .bf16) (aug : Vec Ideal S10x4x8192x128 .bf16) (kc : Vec Ideal S10x8192x128 .bf16)
    (qr : Vec Ideal S2x8x8192 .f32) (ks : Vec Ideal S10x1024x128 .f32) (g : Fin 10) (t r : Fin 8192) :
    k0_pay4 (F := Ideal) qa aug kc qr ks (ix3 g t r)
      = score qa qr kc aug ks g t r - top (score qa qr kc aug ks g t) := by
  refine (sub_apply (k0_pay2 qa aug kc qr ks) (k0_pay3 qa aug kc qr ks) g t r).trans ?_
  rw [pay2_apply, pay3_apply]

theorem pay6_apply (v39 : FVec Ideal S10x8192x8192 .f32) (g : Fin 10) (t : Fin 8192) :
    k0_pay6 (F := Ideal) v39 (ix3 g t 0) = ∑ r : Fin 8192, Ideal.exp2 (v39 (ix3 g t r)) := by
  pointwise [k0_pay6, k0_pay5]
  rfl

/-- The values' product, scaled, over any exponentials and any sum of them. -/
theorem attf_apply (w40 : FVec Ideal S10x8192x8192 .f32) (w42 : FVec Ideal S10x8192x1 .f32) (v50 : Vec Ideal S10x128x8192 .fp8e4m3)
    (v52 : Vec Ideal S10x1x128 .f32) (g : Fin 10) (t : Fin 8192) (d : Fin 128) :
    (have cst_19 : Ideal .f32 := Scalar.ofBits .f32 0x43E00000#32
     have v43 : FVec Ideal S10x8192x8192 .f32 := broadcast S10x8192x8192 cst_19
     have v44 : FVec Ideal S10x8192x8192 .f32 := mulf w40 v43
     have cst_20 : Ideal .f32 := Scalar.ofBits .f32 0xC3E00000#32
     have cst_21 : Ideal .f32 := Scalar.ofBits .f32 0x43E00000#32
     have v45 : FVec Ideal S10x8192x8192 .f32 := broadcast S10x8192x8192 cst_20
     have v46 : FVec Ideal S10x8192x8192 .f32 := maximumf v45 v44
     have v47 : FVec Ideal S10x8192x8192 .f32 := broadcast S10x8192x8192 cst_21
     have v48 : FVec Ideal S10x8192x8192 .f32 := minimumf v47 v46
     have v49 : FVec Ideal S10x8192x8192 .fp8e4m3 := truncf .fp8e4m3 v48 bitsLt_fp8e4m3_f32
     have cst_25 : FVec Ideal S10x8192x128 .f32 := constant S10x8192x128 .f32 0x00000000#32
     have v51 : FVec Ideal S10x8192x128 .f32 := matmul (φ₂ := .fp8e4m3) dot_S10x8192x8192_S10x128x8192_S10x8192x128_2_2_1_1_0_0 none v49 v50 cst_25
     have cst_29 : Ideal .f32 := Scalar.ofBits .f32 0x43E00000#32
     have v53 : FVec Ideal S10x8192x1 .f32 := broadcast S10x8192x1 cst_29
     have v54 : FVec Ideal S10x8192x1 .f32 := mulf w42 v53
     have v55 : FVec Ideal S10x8192x128 .f32 := broadcastTo S10x8192x128 v52 broadcasts_S10x1x128_S10x8192x128
     have v56 : FVec Ideal S10x8192x128 .f32 := broadcastTo S10x8192x128 v54 broadcasts_S10x8192x1_S10x8192x128
     have v57 : FVec Ideal S10x8192x128 .f32 := divf v55 v56
     have v58 : FVec Ideal S10x8192x128 .f32 := mulf v51 v57
     v58) (ix3 g t d)
      = (∑ r : Fin 8192, clp (w40 (ix3 g t r) * fmax) * v50 (ix3 g d r)) * Ideal.div (v52 (ix3 g 0 d)) (w42 (ix3 g t 0) * fmax) := by
  unfold clp fmax
  pointwise

theorem pay7_apply (v39 : FVec Ideal S10x8192x8192 .f32) (v50 : Vec Ideal S10x128x8192 .fp8e4m3)
    (v52 : Vec Ideal S10x1x128 .f32) (g : Fin 10) (t : Fin 8192) (d : Fin 128) (s : Fin 8192 → EReal)
    (h : ∀ r, v39 (ix3 g t r) = s r - top s) :
    k0_pay7 (F := Ideal) v39 v50 v52 (ix3 g t d) = att s (fun r => v50 (ix3 g d r)) (v52 (ix3 g 0 d)) := by
  refine (attf_apply (k0_pay5 v39) (k0_pay6 v39) v50 v52 g t d).trans ?_
  have h5 (r : Fin 8192) : k0_pay5 v39 (ix3 g t r) = ex s r := by
    rw [show k0_pay5 v39 (ix3 g t r) = Ideal.exp2 (v39 (ix3 g t r)) from rfl, h]; rfl
  have h6 : k0_pay6 v39 (ix3 g t 0) = den s := by rw [pay6_apply]; simp only [h]; rfl
  simp only [h5, h6]
  rfl

theorem heads_apply (w : FVec Ideal S10x8192x128 .f32) (r : Fin 81920) (d : Fin 128) :
    (have v59 : FVec Ideal S81920x128 .f32 := shapeCast S81920x128 w shapeCasts_S10x8192x128_S81920x128
     have v60 : FVec Ideal S81920x128 .bf16 := truncf .bf16 v59 bitsLt_bf16_f32
     v60) (ix2 r d) = w (ix3 ⟨r.val / 8192, by omega⟩ ⟨r.val % 8192, by omega⟩ d) := by
  pointwise

theorem toks_apply (w : FVec Ideal S10x8192x128 .f32) (r : Fin 16384) (d : Fin 640) :
    (have v62 : FVec Ideal S2x5x8192x128 .f32 := shapeCast S2x5x8192x128 w shapeCasts_S10x8192x128_S2x5x8192x128
     have v63 : FVec Ideal S2x8192x5x128 .f32 := transpose S2x8192x5x128 [0, 2, 1, 3] v62 transposes_S2x5x8192x128_p0_2_1_3_S2x8192x5x128
     have v64 : FVec Ideal S16384x640 .f32 := shapeCast S16384x640 v63 shapeCasts_S2x8192x5x128_S16384x640
     v64) (ix2 r d) = w (ix3 ⟨r.val / 8192 * 5 + d.val / 128, by omega⟩ ⟨r.val % 8192, by omega⟩ ⟨d.val % 128, by omega⟩) := by
  pointwise

theorem pay10_apply (v66 : Vec Ideal S2x1x640 .f32) (v69 : Vec Ideal S16384x640 .f32) (g : Fin 10) (t : Fin 8192) :
    k0_pay10 (F := Ideal) v66 v69 (ix2 g t)
      = ∑ d : Fin 128, v69 (ix2 ⟨g.val / 5 * 8192 + t.val, by omega⟩ ⟨g.val % 5 * 128 + d.val, by omega⟩)
          * v66 (ix3 ⟨g.val / 5, by omega⟩ 0 ⟨g.val % 5 * 128 + d.val, by omega⟩) := by
  pointwise [k0_pay10]

theorem pay1_apply (v37 v42 : FVec Ideal S10x8192x1 .f32) (v75 : FVec Ideal S10x8192 .f32) (g : Fin 10) (t : Fin 8192) :
    k0_pay1 (F := Ideal) v37 v42 v75 (ix3 g 0 t)
      = Ideal.ofBits FTy.f32 0x3F317218#32
          * (v37 (ix3 g t 0) + Ideal.div (Ideal.log (v42 (ix3 g t 0))) (Ideal.log (Ideal.ofBits FTy.f32 0x40000000#32)))
          + sm * v75 (ix2 g t) - Ideal.ofBits FTy.f32 0x41102CB3#32 := by
  pointwise [k0_pay1]
  rfl

variable (m : (ℓ : Loc nD τ sig) → Buf (Elt Ideal) ℓ)

/-- The argument arrays, named. -/
abbrev A0 (c : Dev nD) : Vec Ideal S16384x1280 .bf16 := m ((c : Thread nD τ).loc main_arg0)
abbrev A1 (c : Dev nD) : Vec Ideal S2x8x8192 .f32 := m ((c : Thread nD τ).loc main_arg1)
abbrev A2 (c : Dev nD) : Vec Ideal S10x8192x128 .bf16 := m ((c : Thread nD τ).loc main_arg2)
abbrev A3 (c : Dev nD) : Vec Ideal S10x4x8192x128 .bf16 := m ((c : Thread nD τ).loc main_arg3)
abbrev A4 (c : Dev nD) : Vec Ideal S10x1024x128 .f32 := m ((c : Thread nD τ).loc main_arg4)
abbrev A5 (c : Dev nD) : Vec Ideal S10x128x8192 .fp8e4m3 := m ((c : Thread nD τ).loc main_arg5)
abbrev A6 (c : Dev nD) : Vec Ideal S10x8x128 .f32 := m ((c : Thread nD τ).loc main_arg6)
abbrev A7 (c : Dev nD) : Vec Ideal S16384x640 .f32 := m ((c : Thread nD τ).loc main_arg7)
abbrev A8 (c : Dev nD) : Vec Ideal S2x8x640 .f32 := m ((c : Thread nD τ).loc main_arg8)

/-- Every window's one block starts at the array's start. -/
theorem idx (t : Fin cfg0.N) : win0_0.index t = ![0, 0] ∧ win0_1.index t = ![0, 0, 0] ∧ win0_2.index t = ![0, 0, 0] ∧ win0_3.index t = ![0, 0, 0, 0]
    ∧ win0_4.index t = ![0, 0, 0] ∧ win0_5.index t = ![0, 0, 0] ∧ win0_6.index t = ![0, 0, 0] ∧ win0_7.index t = ![0, 0]
    ∧ win0_8.index t = ![0, 0, 0] ∧ win0_9.index t = ![0, 0] ∧ win0_10.index t = ![0, 0] ∧ win0_11.index t = ![0, 0, 0] :=
  (by decide +kernel : ∀ t : Fin cfg0.N, win0_0.index t = ![0, 0] ∧ win0_1.index t = ![0, 0, 0] ∧ win0_2.index t = ![0, 0, 0] ∧ win0_3.index t = ![0, 0, 0, 0]
    ∧ win0_4.index t = ![0, 0, 0] ∧ win0_5.index t = ![0, 0, 0] ∧ win0_6.index t = ![0, 0, 0] ∧ win0_7.index t = ![0, 0]
    ∧ win0_8.index t = ![0, 0, 0] ∧ win0_9.index t = ![0, 0] ∧ win0_10.index t = ![0, 0] ∧ win0_11.index t = ![0, 0, 0]) t

theorem b0 (c : Dev nD) (t : Fin cfg0.N) (r : Fin 16384) (k : Fin 1280) : (iblk m c 0 t : Vec Ideal S16384x1280 .bf16) (ix2 r k) = A0 m c (ix2 r k) := by
  blk_ext [iblk, V, idx t]

theorem b1 (c : Dev nD) (t : Fin cfg0.N) (a : Fin 2) (b : Fin 8) (k : Fin 8192) : (iblk m c 1 t : Vec Ideal S2x8x8192 .f32) (ix3 a b k) = A1 m c (ix3 a b k) := by
  blk_ext [iblk, V, idx t]

theorem b2 (c : Dev nD) (t : Fin cfg0.N) (g : Fin 10) (r : Fin 8192) (k : Fin 128) : (iblk m c 2 t : Vec Ideal S10x8192x128 .bf16) (ix3 g r k) = A2 m c (ix3 g r k) := by
  blk_ext [iblk, V, idx t]

theorem b3 (c : Dev nD) (t : Fin cfg0.N) (g : Fin 10) (a : Fin 4) (r : Fin 8192) (k : Fin 128) : (iblk m c 3 t : Vec Ideal S10x4x8192x128 .bf16) (ix4 g a r k) = A3 m c (ix4 g a r k) := by
  blk_ext [iblk, V, idx t]

theorem b4 (c : Dev nD) (t : Fin cfg0.N) (g : Fin 10) (r : Fin 1024) (k : Fin 128) : (iblk m c 4 t : Vec Ideal S10x1024x128 .f32) (ix3 g r k) = A4 m c (ix3 g r k) := by
  blk_ext [iblk, V, idx t]

theorem b5 (c : Dev nD) (t : Fin cfg0.N) (g : Fin 10) (d : Fin 128) (r : Fin 8192) : (iblk m c 5 t : Vec Ideal S10x128x8192 .fp8e4m3) (ix3 g d r) = A5 m c (ix3 g d r) := by
  blk_ext [iblk, V, idx t]

theorem b6 (c : Dev nD) (t : Fin cfg0.N) (g : Fin 10) (d : Fin 128) :
    (View.ld (iblk m c 6 t : Vec Ideal S10x8x128 .f32) r0_6 : Vec Ideal S10x1x128 .f32) (ix3 g 0 d) = A6 m c (ix3 g 0 d) := by
  unfold r0_6
  pointwise
  blk_ext [iblk, V, idx t]

theorem b7 (c : Dev nD) (t : Fin cfg0.N) (r : Fin 16384) (k : Fin 640) : (iblk m c 7 t : Vec Ideal S16384x640 .f32) (ix2 r k) = A7 m c (ix2 r k) := by
  blk_ext [iblk, V, idx t]

theorem b8 (c : Dev nD) (t : Fin cfg0.N) (b : Fin 2) (k : Fin 640) :
    (View.ld (iblk m c 8 t : Vec Ideal S2x8x640 .f32) r0_9 : Vec Ideal S2x1x640 .f32) (ix3 b 0 k) = A8 m c (ix3 b 0 k) := by
  unfold r0_9
  pointwise
  blk_ext [iblk, V, idx t]

theorem e9 (c : Dev nD) (t : Fin cfg0.N) (y : S81920x128.Idx) : ((View.whole main_v0_0).slice (win0_9.rect t)).emb y = y := by
  blk_ext [idx t]

theorem e10 (c : Dev nD) (t : Fin cfg0.N) (y : S16384x640.Idx) : ((View.whole main_v0_1).slice (win0_10.rect t)).emb y = y := by
  blk_ext [idx t]

theorem e11 (c : Dev nD) (t : Fin cfg0.N) (y : S10x1x8192.Idx) : ((View.whole main_v0_2).slice (win0_11.rect t)).emb y = y := by
  blk_ext [idx t]

section values

variable {x0 a0 : Vec Ideal S16384x1280 .bf16} {x1 a1 : Vec Ideal S2x8x8192 .f32} {x2 a2 : Vec Ideal S10x8192x128 .bf16}
  {x3 a3 : Vec Ideal S10x4x8192x128 .bf16} {x4 a4 : Vec Ideal S10x1024x128 .f32} {x5 a5 : Vec Ideal S10x128x8192 .fp8e4m3}
  {x6 : Vec Ideal S10x1x128 .f32} {a6 : Vec Ideal S10x8x128 .f32} {x7 a7 : Vec Ideal S16384x640 .f32}
  {x8 : Vec Ideal S2x1x640 .f32} {a8 : Vec Ideal S2x8x640 .f32}
  (h0 : ∀ r k, x0 (ix2 r k) = a0 (ix2 r k)) (h1 : ∀ a b k, x1 (ix3 a b k) = a1 (ix3 a b k))
  (h2 : ∀ g r k, x2 (ix3 g r k) = a2 (ix3 g r k)) (h3 : ∀ g a r k, x3 (ix4 g a r k) = a3 (ix4 g a r k))
  (h4 : ∀ g r k, x4 (ix3 g r k) = a4 (ix3 g r k))

include h0 h1 h2 h3 h4 in
/-- The scores as the body reads them. -/
theorem score_eq (g : Fin 10) (t : Fin 8192) : score x0 x1 x2 x3 x4 g t = score a0 a1 a2 a3 a4 g t := by
  funext r
  unfold score
  simp only [h0, h1, h2, h3, h4]

include h0 h1 h2 h3 h4 in
/-- One element of the attention, from the blocks' reads. -/
theorem elem_eq (h5 : ∀ g d r, x5 (ix3 g d r) = a5 (ix3 g d r)) (h6 : ∀ g d, x6 (ix3 g 0 d) = a6 (ix3 g 0 d))
    (g : Fin 10) (t : Fin 8192) (d : Fin 128) :
    k0_pay7 (F := Ideal) (k0_pay4 x0 x3 x2 x1 x4) x5 x6 (ix3 g t d) = elem a0 a1 a2 a3 a4 a5 a6 g t d := by
  rw [pay7_apply _ _ _ g t d (score x0 x1 x2 x3 x4 g t) (fun r => pay4_apply x0 x3 x2 x1 x4 g t r), score_eq h0 h1 h2 h3 h4]
  simp only [h5, h6]
  rfl

include h0 h1 h2 h3 h4 in
theorem val9 (h5 : ∀ g d r, x5 (ix3 g d r) = a5 (ix3 g d r)) (h6 : ∀ g d, x6 (ix3 g 0 d) = a6 (ix3 g 0 d))
    (r : Fin 81920) (d : Fin 128) :
    k0_pay8 (F := Ideal) (k0_pay4 x0 x3 x2 x1 x4) x5 x6 (ix2 r d) = res9 a0 a1 a2 a3 a4 a5 a6 (ix2 r d) :=
  (heads_apply (k0_pay7 (k0_pay4 x0 x3 x2 x1 x4) x5 x6) r d).trans (elem_eq h0 h1 h2 h3 h4 h5 h6 _ _ _)

include h0 h1 h2 h3 h4 in
theorem val10 (h5 : ∀ g d r, x5 (ix3 g d r) = a5 (ix3 g d r)) (h6 : ∀ g d, x6 (ix3 g 0 d) = a6 (ix3 g 0 d))
    (r : Fin 16384) (d : Fin 640) :
    k0_pay9 (F := Ideal) (k0_pay4 x0 x3 x2 x1 x4) x5 x6 (ix2 r d) = res10 a0 a1 a2 a3 a4 a5 a6 (ix2 r d) :=
  (toks_apply (k0_pay7 (k0_pay4 x0 x3 x2 x1 x4) x5 x6) r d).trans (elem_eq h0 h1 h2 h3 h4 h5 h6 _ _ _)

include h0 h1 h2 h3 h4 in
theorem val11 (h7 : ∀ r k, x7 (ix2 r k) = a7 (ix2 r k)) (h8 : ∀ b k, x8 (ix3 b 0 k) = a8 (ix3 b 0 k))
    (g : Fin 10) (t : Fin 8192) :
    k0_pay1 (F := Ideal) (k0_pay3 x0 x3 x2 x1 x4) (k0_pay6 (k0_pay4 x0 x3 x2 x1 x4)) (k0_pay10 x8 x7) (ix3 g 0 t)
      = res11 a0 a1 a2 a3 a4 a7 a8 (ix3 g 0 t) := by
  rw [pay1_apply, pay3_apply, pay6_apply, pay10_apply]
  simp only [pay4_apply, score_eq h0 h1 h2 h3 h4, h7, h8]
  rfl

end values

end Cert.Proof.AttnRef

end
-- ==== Proof.AttnRefFinal.lean ====
/-
  The reference of the attention, put together: its run leaves the three result arrays as functions of the argument arrays.
-/
module

public import proofs.«01_k».proof.Proof.AttnRef

@[expose] public section

set_option maxRecDepth 16384

noncomputable section

namespace Cert.Proof.AttnRef

open Idealize.ShloMosaic Idealize.SL.Sem Cert.AttentionRefIdeal Cert.AttentionRefIdeal.Gen Idealize.ShloMosaic.TcCoe
open Idealize.ShloMosaic.Pipeline (Dat Cfg Window)
open Cert.Proof.Attn

theorem ld0 (x : Vec Ideal S16384x1280 .bf16) : (View.ld x r0_0 : Vec Ideal S16384x1280 .bf16) = x := View.ld_unit_zero (by decide) _ _
theorem ld1 (x : Vec Ideal S10x4x8192x128 .bf16) : (View.ld x r0_1 : Vec Ideal S10x4x8192x128 .bf16) = x := View.ld_unit_zero (by decide) _ _
theorem ld2 (x : Vec Ideal S10x8192x128 .bf16) : (View.ld x r0_2 : Vec Ideal S10x8192x128 .bf16) = x := View.ld_unit_zero (by decide) _ _
theorem ld3 (x : Vec Ideal S2x8x8192 .f32) : (View.ld x r0_3 : Vec Ideal S2x8x8192 .f32) = x := View.ld_unit_zero (by decide) _ _
theorem ld4 (x : Vec Ideal S10x1024x128 .f32) : (View.ld x r0_4 : Vec Ideal S10x1024x128 .f32) = x := View.ld_unit_zero (by decide) _ _
theorem ld5 (x : Vec Ideal S10x128x8192 .fp8e4m3) : (View.ld x r0_5 : Vec Ideal S10x128x8192 .fp8e4m3) = x := View.ld_unit_zero (by decide) _ _
theorem ld8 (x : Vec Ideal S16384x640 .f32) : (View.ld x r0_8 : Vec Ideal S16384x640 .f32) = x := View.ld_unit_zero (by decide) _ _

section outs

variable (x0 : Vec Ideal S16384x1280 .bf16) (x1 : Vec Ideal S2x8x8192 .f32) (x2 : Vec Ideal S10x8192x128 .bf16)
  (x3 : Vec Ideal S10x4x8192x128 .bf16) (x4 : Vec Ideal S10x1024x128 .f32) (x5 : Vec Ideal S10x128x8192 .fp8e4m3)
  (x6 : Vec Ideal S10x8x128 .f32) (x7 : Vec Ideal S16384x640 .f32) (x8 : Vec Ideal S2x8x640 .f32)

theorem out9 : out0_9 x0 x1 x2 x3 x4 x5 x6 x7 x8 = k0_pay8 (F := Ideal) (k0_pay4 x0 x3 x2 x1 x4) x5 (View.ld x6 r0_6) := by
  unfold out0_9 k0_pay11 r0_7
  rw [View.canon_cons_unit_zero (S := S81920x128) (by decide)]
  rw [ld0, ld1, ld2, ld3, ld4, ld5]

theorem out10 : out0_10 x0 x1 x2 x3 x4 x5 x6 x7 x8 = k0_pay9 (F := Ideal) (k0_pay4 x0 x3 x2 x1 x4) x5 (View.ld x6 r0_6) := by
  unfold out0_10 k0_pay11 r0_8
  rw [View.canon_cons_unit_zero (S := S16384x640) (by decide)]
  rw [ld0, ld1, ld2, ld3, ld4, ld5]

theorem out11 : out0_11 x0 x1 x2 x3 x4 x5 x6 x7 x8
    = k0_pay1 (F := Ideal) (k0_pay3 x0 x3 x2 x1 x4) (k0_pay6 (k0_pay4 x0 x3 x2 x1 x4)) (k0_pay10 (View.ld x8 r0_9) x7) := by
  unfold out0_11 k0_pay11 r0_10
  rw [View.canon_cons_unit_zero (S := S10x1x8192) (by decide)]
  rw [ld0, ld1, ld2, ld3, ld4, ld8]

end outs

variable (m : (ℓ : Loc nD τ sig) → Buf (Elt Ideal) ℓ)

/-- The first result: the attention, heads first. -/
theorem fin9 (c : Dev nD) : (dats m 0 c).arrAt 9 cfg0.N = res9 (A0 m c) (A1 m c) (A2 m c) (A3 m c) (A4 m c) (A5 m c) (A6 m c) := by
  refine (dats m 0 c).arrAt_eq_of_covers 9 _ (by decide +kernel) fun t hf y => ?_
  blk_simp
  rw [after0_9, out9]
  obtain ⟨r, d, rfl⟩ : ∃ (a : Fin 81920) (b : Fin 128), y = ix2 a b := ⟨y 0, y 1, eq_ix2 y⟩
  rw [e9 c t]
  exact val9 (b0 m c t) (b1 m c t) (b2 m c t) (b3 m c t) (b4 m c t) (b5 m c t) (b6 m c t) _ _

/-- The second result: the attention, tokens first. -/
theorem fin10 (c : Dev nD) : (dats m 0 c).arrAt 10 cfg0.N = res10 (A0 m c) (A1 m c) (A2 m c) (A3 m c) (A4 m c) (A5 m c) (A6 m c) := by
  refine (dats m 0 c).arrAt_eq_of_covers 10 _ (by decide +kernel) fun t hf y => ?_
  blk_simp
  rw [after0_10, out10]
  obtain ⟨r, d, rfl⟩ : ∃ (a : Fin 16384) (b : Fin 640), y = ix2 a b := ⟨y 0, y 1, eq_ix2 y⟩
  rw [e10 c t]
  exact val10 (b0 m c t) (b1 m c t) (b2 m c t) (b3 m c t) (b4 m c t) (b5 m c t) (b6 m c t) _ _

/-- An index of the logarithms' array, by its coordinates. -/
theorem eq_ix3' (y : S10x1x8192.Idx) : ∃ (a : Fin 10) (b : Fin 8192), y = ix3 a 0 b := by
  idx_vars y
  exact ⟨y0, y2, by rw [Subsingleton.elim y1 0]⟩

/-- The third result: the logarithms. -/
theorem fin11 (c : Dev nD) : (dats m 0 c).arrAt 11 cfg0.N = res11 (A0 m c) (A1 m c) (A2 m c) (A3 m c) (A4 m c) (A7 m c) (A8 m c) := by
  refine (dats m 0 c).arrAt_eq_of_covers 11 _ (by decide +kernel) fun t hf y => ?_
  blk_simp
  rw [after0_11, out11]
  rw [e11 c t y]
  obtain ⟨g, r, rfl⟩ := eq_ix3' y
  exact val11 (b0 m c t) (b1 m c t) (b2 m c t) (b3 m c t) (b4 m c t) (b7 m c t) (b8 m c t) _ _

variable (ρ : Dev nD → PrngReg)

/-- The run: the three result arrays hold the functions above, and the arguments end unchanged. -/
theorem run : θ_run defs (onTc (τ := τ) (main (F := Ideal))) ⟨m, fun _ => 0, ρ⟩ fun r => ∀ c : Dev nD,
      r.2.mem ((c : Thread nD τ).loc main_v0_0) = res9 (A0 m c) (A1 m c) (A2 m c) (A3 m c) (A4 m c) (A5 m c) (A6 m c)
      ∧ r.2.mem ((c : Thread nD τ).loc main_v0_1) = res10 (A0 m c) (A1 m c) (A2 m c) (A3 m c) (A4 m c) (A5 m c) (A6 m c)
      ∧ r.2.mem ((c : Thread nD τ).loc main_v0_2) = res11 (A0 m c) (A1 m c) (A2 m c) (A3 m c) (A4 m c) (A7 m c) (A8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (fin9 m c), ((h c).1 10).trans (fin10 m c), ((h c).1 11).trans (fin11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.Proof.AttnRef

end
-- ==== Proof.AttnAlgebraic.lean ====
/-
  The attention: the kernel's idealization and the reference's end with equal results.
-/
module

public import proofs.«01_k».proof.Proof.AttnFinal
public import proofs.«01_k».proof.Proof.AttnRefFinal

@[expose] public section

noncomputable section

namespace Cert.Proof

open Idealize.ShloMosaic Idealize.SL.Sem

/-- Both programs compute the attention written out in `Cert.Proof.Attn`. -/
theorem attn_algebraic [hK : Cert.AttentionIdeal.Facts] [hR : Cert.AttentionRefIdeal.Facts] :
    Cert.algebraic_AttentionIdeal_AttentionRefIdeal := by
  intro m ρ m' ρ' _ hagree
  refine ⟨_, _, _, AttnKernel.run_all m ρ, ?_⟩
  refine (θ_run Cert.AttentionRefIdeal.defs _ _).mono (fun _ h c => ?_) (AttnRef.run m' ρ')
  obtain ⟨e0, e1, e2, e3, e4, e5, e6, e7, e8⟩ := hagree c
  obtain ⟨h9, h10, h11, h⟩ := h c
  have f0 : AttnRef.A0 m' c = AttnKernel.A0 m c := e0
  have f1 : AttnRef.A1 m' c = AttnKernel.A1 m c := e1
  have f2 : AttnRef.A2 m' c = AttnKernel.A2 m c := e2
  have f3 : AttnRef.A3 m' c = AttnKernel.A3 m c := e3
  have f4 : AttnRef.A4 m' c = AttnKernel.A4 m c := e4
  have f5 : AttnRef.A5 m' c = AttnKernel.A5 m c := e5
  have f6 : AttnRef.A6 m' c = AttnKernel.A6 m c := e6
  have f7 : AttnRef.A7 m' c = AttnKernel.A7 m c := e7
  have f8 : AttnRef.A8 m' c = AttnKernel.A8 m c := e8
  rw [f0, f1, f2, f3, f4, f5, f6] at h9 h10
  rw [f0, f1, f2, f3, f4, f7, f8] at h11
  exact ⟨h9, h10, h11, h⟩

end Cert.Proof

end
-- ==== Proof.OutSpec.lean ====
/-
  The output projection written out at an index, over the extended reals: what both the tiled kernel and the reference are
  shown to compute. A token's head outputs are quantised to 8 bits with one scale per token, multiplied with the 8-bit weight,
  scaled back, and added to the residual stream under the gate.
-/
module

public import proofs.«01_k».proof.Defs
public import Idealize.ShloMosaic.Lib.Pipeline.ValueKit
public import Idealize.ShloMosaic.Lib.Pointwise

@[expose] public section

set_option maxRecDepth 16384

noncomputable section

namespace Cert.Proof.Out

open Idealize.ShloMosaic

/-- The largest magnitude of a token's head outputs. -/
def amax (f : Fin 640 → EReal) : EReal :=
  Finset.fold max (Ideal.ofBits FTy.f32 4286578688#32) (fun x => FloatOps.absf (F := Ideal) (φ := .f32) (f x)) Finset.univ

/-- A token's scale: the largest magnitude over 127, or 1 where the token is zero. -/
def scale (f : Fin 640 → EReal) : EReal :=
  if amax f = 0 then 1 else Ideal.div (amax f) (Ideal.ofBits FTy.f32 1123942400#32)

/-- The 8-bit code of a scaled value: rounded to the nearest whole number, ties to even, and clipped to ±127. -/
def code (x : EReal) : BitVec 8 :=
  FloatOps.fptosi (F := Ideal) (φ := .f32) 8
    (min (Ideal.ofBits FTy.f32 1123942400#32)
      (max (Ideal.ofBits FTy.f32 3271426048#32) (Ideal.liftRound Ideal.roundHalfEven x)))

/-- A token's head outputs, its batch's mean value added. -/
def token (o : (⟨2, ![16384, 640]⟩ : Shape).Idx → EReal) (stats : (⟨3, ![2, 8, 640]⟩ : Shape).Idx → EReal)
    (r : Fin 16384) : Fin 640 → EReal :=
  fun k => o (ix2 r k) + stats (ix3 ⟨r.val / 8192, by omega⟩ 1 k)

/-- One element of the result: the residual plus the gate times the scaled-back projection of the token's codes `cd`. -/
def hidden (cd : Fin 640 → BitVec 8) (sc : EReal) (x gate s_o b_o : EReal) (w : Fin 640 → BitVec 8) : EReal :=
  x + gate * ((∑ k, FloatOps.sitofp (F := Ideal) FTy.bf16 (cd k) * FloatOps.sitofp (F := Ideal) FTy.bf16 (w k)) * sc * s_o + b_o)

/-- The first result: the residual stream after the projection, one row per token. -/
def res7 (o : (⟨2, ![16384, 640]⟩ : Shape).Idx → EReal) (stats : (⟨3, ![2, 8, 640]⟩ : Shape).Idx → EReal)
    (x : (⟨3, ![2, 8192, 5120]⟩ : Shape).Idx → EReal) (w : (⟨3, ![5, 128, 5120]⟩ : Shape).Idx → BitVec 8)
    (s_o b_o : (⟨1, ![5120]⟩ : Shape).Idx → EReal) (gate : (⟨2, ![2, 5120]⟩ : Shape).Idx → EReal) :
    (⟨2, ![16384, 5120]⟩ : Shape).Idx → EReal := fun i =>
  hidden (fun k => code (Ideal.div (token o stats (i 0) k) (scale (token o stats (i 0))))) (scale (token o stats (i 0)))
    (x (ix3 ⟨(i 0).val / 8192, Nat.div_lt_of_lt_mul (i 0).isLt⟩ ⟨(i 0).val % 8192, Nat.mod_lt _ (by decide)⟩ (i 1)))
    (gate (ix2 ⟨(i 0).val / 8192, Nat.div_lt_of_lt_mul (i 0).isLt⟩ (i 1))) (s_o (ix1 (i 1))) (b_o (ix1 (i 1)))
    (fun k => w (ix3 ⟨k.val / 128, by omega⟩ ⟨k.val % 128, by omega⟩ (i 1)))

/-- The second result: the codes, heads first. -/
def res8 (o : (⟨2, ![16384, 640]⟩ : Shape).Idx → EReal) (stats : (⟨3, ![2, 8, 640]⟩ : Shape).Idx → EReal) :
    (⟨4, ![2, 5, 8192, 128]⟩ : Shape).Idx → BitVec 8 := fun i =>
  have h0 : (i 0).val < 2 := (i 0).isLt
  have h1 : (i 1).val < 5 := (i 1).isLt
  have h2 : (i 2).val < 8192 := (i 2).isLt
  have h3 : (i 3).val < 128 := (i 3).isLt
  code (Ideal.div (token o stats ⟨(i 0).val * 8192 + (i 2).val, by omega⟩ ⟨(i 1).val * 128 + (i 3).val, by omega⟩)
    (scale (token o stats ⟨(i 0).val * 8192 + (i 2).val, by omega⟩)))

/-- The third result: the scales, by blocks of 256 tokens. -/
def res9 (o : (⟨2, ![16384, 640]⟩ : Shape).Idx → EReal) (stats : (⟨3, ![2, 8, 640]⟩ : Shape).Idx → EReal) :
    (⟨3, ![64, 1, 256]⟩ : Shape).Idx → EReal := fun i =>
  have h0 : (i 0).val < 64 := (i 0).isLt
  have h2 : (i 2).val < 256 := (i 2).isLt
  scale (token o stats ⟨(i 0).val * 256 + (i 2).val, by omega⟩)

/-- A token's scale is not zero: where the largest magnitude is zero it is 1, and elsewhere a product of two nonzero
    numbers. -/
theorem scale_ne_zero (f : Fin 640 → EReal) : scale f ≠ 0 := by
  unfold scale
  split
  · exact one_ne_zero
  · rename_i h
    rw [show Ideal.ofBits FTy.f32 1123942400#32 = ((127 : ℝ) : EReal) by simp [Ideal.ofBits, Ideal.ieee, -EReal.coe_mul]; norm_num]
    unfold Ideal.div
    have h127 : ((127 : ℝ) : EReal) ≠ 0 := by exact_mod_cast (by norm_num : (127 : ℝ) ≠ 0)
    have hi : ((127 : ℝ) : EReal)⁻¹ ≠ 0 := by
      rw [← EReal.coe_inv]
      exact_mod_cast (by norm_num : (127 : ℝ)⁻¹ ≠ 0)
    rw [if_neg h127]
    exact mul_ne_zero h hi

/-- Dividing by a scale is multiplying by one over it. -/
theorem div_scale (x : EReal) (f : Fin 640 → EReal) : x * Ideal.div 1 (scale f) = Ideal.div x (scale f) := by
  have h := scale_ne_zero f
  unfold Ideal.div
  rw [if_neg h, if_neg h, one_mul]

end Cert.Proof.Out

end
-- ==== Proof.OutKernel.lean ====
/-
  The output projection's kernel, run: its three result arrays as functions of its argument arrays. The weight is converted
  once per core into scratch at the first point of a batch and carried; each point writes ten column tiles of its 256 tokens.
-/
module

public import proofs.«01_k».proof.Proof.OutSpec
public import proofs.«01_k».proof.Proof.Gen.OutIdeal.Value
public import Idealize.ShloMosaic.Lib.Pipeline.ReadBack

@[expose] public section

set_option maxRecDepth 16384

noncomputable section

namespace Cert.Proof.OutKernel

open Idealize.ShloMosaic Idealize.SL.Sem Cert.OutIdeal Cert.OutIdeal.Gen Idealize.ShloMosaic.TcCoe
open Idealize.ShloMosaic.Pipeline (Dat Cfg Window)
open Cert.Proof.Out

/-- A block's token. -/
def tok (x0 : Vec Ideal S256x640 .f32) (x1 : Vec Ideal S1x8x640 .f32) (r : Fin 256) : Fin 640 → EReal :=
  fun k => x0 (ix2 r k) + x1 (ix3 0 1 k)

/-- A block's first result. -/
def blk7 (x0 : Vec Ideal S256x640 .f32) (x1 : Vec Ideal S1x8x640 .f32) (x2 : Vec Ideal S256x5120 .bf16) (w : Vec Ideal S640x5120 .bf16)
    (x4 x5 : Vec Ideal S1x5120 .f32) (x6 : Vec Ideal S1x1x5120 .f32) : Vec Ideal S256x5120 .bf16 := fun i =>
  x2 (ix2 (i 0) (i 1)) + x6 (ix3 0 0 (i 1))
    * ((∑ k, FloatOps.sitofp (F := Ideal) FTy.bf16 (code (Ideal.div (tok x0 x1 (i 0) k) (scale (tok x0 x1 (i 0))))) * w (ix2 k (i 1)))
        * scale (tok x0 x1 (i 0)) * x4 (ix2 0 (i 1)) + x5 (ix2 0 (i 1)))

/-- A block's codes. -/
def blk8 (x0 : Vec Ideal S256x640 .f32) (x1 : Vec Ideal S1x8x640 .f32) : Vec Ideal S1x5x256x128 .i8 := fun i =>
  have h1 : (i 1).val < 5 := (i 1).isLt
  have h3 : (i 3).val < 128 := (i 3).isLt
  code (Ideal.div (tok x0 x1 (i 2) ⟨(i 1).val * 128 + (i 3).val, by omega⟩) (scale (tok x0 x1 (i 2))))

/-- A block's scales. -/
def blk9 (x0 : Vec Ideal S256x640 .f32) (x1 : Vec Ideal S1x8x640 .f32) : Vec Ideal S1x1x256 .f32 := fun i =>
  scale (tok x0 x1 (i 2))

/-- The row of the means that the kernel adds. -/
abbrev rowRect : Rect S1x8x640 := Rect.unit (s := S1x8x640) ![0, 1, 0] ![1, 1, 640] inb_S1x8x640_S1x1x640_0_1_0

/-- The token, as the body reads it. -/
theorem pay4_apply (x0 : Vec Ideal S256x640 .f32) (x1 : Vec Ideal S1x8x640 .f32) (r : Fin 256) (k : Fin 640) :
    k0_pay4 (F := Ideal) x0 (View.ld x1 rowRect) (ix2 r k) = tok x0 x1 r k := by
  unfold tok
  pointwise [k0_pay4]

/-- The scales, from the tokens. -/
theorem pay5_apply (x0 : Vec Ideal S256x640 .f32) (x1 : Vec Ideal S1x8x640 .f32) (r : Fin 256) :
    k0_pay5 (F := Ideal) x0 (View.ld x1 rowRect) (ix2 r 0) = scale (tok x0 x1 r) := by
  pointwise [k0_pay5]
  simp only [pay4_apply]
  rfl

/-- The codes, from the tokens. -/
theorem pay6_apply (x0 : Vec Ideal S256x640 .f32) (x1 : Vec Ideal S1x8x640 .f32) (r : Fin 256) (k : Fin 640) :
    k0_pay6 (F := Ideal) x0 (View.ld x1 rowRect) (ix2 r k) = code (Ideal.div (tok x0 x1 r k) (scale (tok x0 x1 r))) := by
  have h : k0_pay6 (F := Ideal) x0 (View.ld x1 rowRect) (ix2 r k)
      = code (tok x0 x1 r k * Ideal.div 1 (k0_pay5 (F := Ideal) x0 (View.ld x1 rowRect) (ix2 r 0))) := by
    pointwise [k0_pay6]
    rw [pay4_apply]
    rfl
  rw [h, pay5_apply, div_scale]

/-- One tile of the projection. -/
theorem tile_apply (sc : Vec Ideal S256x1 .f32) (cd : Vec Ideal S256x640 .i8) (w : Vec Ideal S640x512 .bf16)
    (s_o b_o : Vec Ideal S1x512 .f32) (x : Vec Ideal S256x512 .bf16) (g : Vec Ideal S1x1x512 .f32) (r : Fin 256) (n : Fin 512) :
    k0_pay15 (F := Ideal) (k0_pay14 sc cd w s_o b_o) x g (ix2 r n)
      = x (ix2 r n) + g (ix3 0 0 n)
        * ((∑ k, FloatOps.sitofp (F := Ideal) FTy.bf16 (cd (ix2 r k)) * w (ix2 k n)) * sc (ix2 r 0) * s_o (ix2 0 n) + b_o (ix2 0 n)) := by
  pointwise [k0_pay15, k0_pay14, k0_pay12]

/-- A stored tile of the first output is a piece of the block. -/
theorem canon7 (x0 : Vec Ideal S256x640 .f32) (x1 : Vec Ideal S1x8x640 .f32) (x2 : Vec Ideal S256x5120 .bf16) (w : Vec Ideal S640x5120 .bf16)
    (x4 x5 : Vec Ideal S1x5120 .f32) (x6 : Vec Ideal S1x1x5120 .f32) (off : Nat) (h : off + 512 ≤ 5120)
    (i4 : ∀ i : Fin 2, ![0, off] i + ![1, 512] i ≤ ![1,5120] i)
    (i2 : ∀ i : Fin 2, ![0, off] i + ![256, 512] i ≤ ![256,5120] i)
    (iw : ∀ i : Fin 2, ![0, off] i + ![640, 512] i ≤ ![640,5120] i)
    (i6 : ∀ i : Fin 3, ![0, 0, off] i + ![1, 1, 512] i ≤ ![1, 1,5120] i) (z : S256x512.Idx) (y : S256x5120.Idx)
    (W : Vec Ideal S640x512 .bf16) (hW : W = View.ld w (Rect.unit ![0, off] ![640, 512] iw))
    (hy0 : (y 0).val = (z 0).val) (hy : (y 1).val = off + (z 1).val) :
    k0_pay15 (F := Ideal) (k0_pay14 (k0_pay5 x0 (View.ld x1 rowRect)) (k0_pay6 x0 (View.ld x1 rowRect))
        W (View.ld x4 (Rect.unit ![0, off] ![1, 512] i4))
        (View.ld x5 (Rect.unit ![0, off] ![1, 512] i4))) (View.ld x2 (Rect.unit ![0, off] ![256, 512] i2))
        (View.ld x6 (Rect.unit ![0, 0, off] ![1, 1, 512] i6)) z = blk7 x0 x1 x2 w x4 x5 x6 y := by
  subst hW
  obtain ⟨r, n, rfl⟩ : ∃ (a : Fin 256) (b : Fin 512), z = ix2 a b := ⟨z 0, z 1, eq_ix2 z⟩
  have hn : off + n.val < 5120 := by have := n.isLt; omega
  obtain rfl : y = ix2 r ⟨off + n.val, hn⟩ := by
    refine (eq_ix2 (n0 := 256) (n1 := 5120) y).trans ?_
    congr 1
    · exact Fin.ext hy0
    · exact Fin.ext hy
  rw [tile_apply, pay5_apply]
  simp only [pay6_apply]
  unfold blk7
  pointwise

/-- A stored tile of the codes is a piece of the block. -/
theorem canon8 (x0 : Vec Ideal S256x640 .f32) (x1 : Vec Ideal S1x8x640 .f32) (j : Nat) (hj : j < 5)
    (hs : S256x640.Slices ![0, 128 * j] S256x128) (z : S1x1x256x128.Idx) (y : S1x5x256x128.Idx)
    (h1 : (y 1).val = j + (z 1).val) (h2 : (y 2).val = (z 2).val) (h3 : (y 3).val = (z 3).val) :
    (shapeCast S1x1x256x128 (extractStridedSlice S256x128 ![0, 128 * j] (k0_pay6 (F := Ideal) x0 (View.ld x1 rowRect)) hs)
      shapeCasts_S256x128_S1x1x256x128) z = blk8 x0 x1 y := by
  idx_vars z
  idx_vars y
  have hj' : z1 = 0 := Subsingleton.elim _ _
  have hz : z0 = 0 := Subsingleton.elim _ _
  have hy : y0 = 0 := Subsingleton.elim _ _
  subst hj' hz hy
  obtain rfl : z2 = y2 := Fin.ext h2.symm
  obtain rfl : z3 = y3 := Fin.ext h3.symm
  have hz3 : z3.val < 128 := z3.isLt
  have hl : 128 * j + z3.val < 640 := by omega
  have e : (shapeCast S1x1x256x128 (extractStridedSlice S256x128 ![0, 128 * j] (k0_pay6 (F := Ideal) x0 (View.ld x1 rowRect)) hs)
      shapeCasts_S256x128_S1x1x256x128) (ix4 0 0 z2 z3) = k0_pay6 (F := Ideal) x0 (View.ld x1 rowRect) (ix2 z2 ⟨128 * j + z3.val, hl⟩) := by
    generalize k0_pay6 (F := Ideal) x0 (View.ld x1 rowRect) = w
    pointwise
  rw [e, pay6_apply]
  have hy : y1.val * 128 + z3.val = 128 * j + z3.val := by
    have : y1.val = j := h1
    omega
  unfold blk8
  simp only [ix4_0, ix4_1, ix4_2, ix4_3, hy]

/-- The scales' block. -/
theorem canon9 (x0 : Vec Ideal S256x640 .f32) (x1 : Vec Ideal S1x8x640 .f32) (y : S1x1x256.Idx) :
    k0_pay13 (F := Ideal) (k0_pay5 x0 (View.ld x1 rowRect)) y = blk9 x0 x1 y := by
  idx_vars y
  pointwise [k0_pay13]
  rw [pay5_apply]
  rfl

/-- Scratch filled whole, loaded through a rectangle, is the rectangle of what filled it. -/
theorem scratch_read (w : Vec Ideal S640x5120 .bf16) (r : Rect S640x5120) :
    (View.whole cc0_scratch0).readCov (Val := Elt Ideal) [⟨Rect.unit ![0, 0] ![640, 5120] inb_S640x5120_S640x5120_0_0, w⟩] r.toLoadRect
      = View.ld w r :=
  (View.readCov_eq_canon' _ _ _).trans
    (congrArg (fun (X : Vec Ideal S640x5120 .bf16) j => X (r.toLoadRect.idx j)) (View.canon_unit_zero (S := S640x5120) (by decide) _ w))

variable (m : (ℓ : Loc nD τ sig) → Buf (Elt Ideal) ℓ)

/-- The first output's block, at a point of case A. -/
theorem out7_A (c : Dev nD) (t : Fin cfg0.N) (h : t.val % 64 = 0) (y : S256x5120.Idx) :
    ((outsAt0 m c t.val t.isLt).1 : Vec Ideal S256x5120 .bf16) y
      = blk7 (iblk m c 0 t) (iblk m c 1 t) (iblk m c 2 t) (k0_pay3 (F := Ideal) (iblk m c 3 t))
          (iblk m c 4 t) (iblk m c 5 t) (iblk m c 6 t) y := by
  rw [outsAt0_A m c t h]
  dsimp only
  frame_out
  obtain ⟨x0, hx0⟩ : ∃ x : Vec Ideal S256x640 .f32, iblk m c 0 t = x := ⟨_, rfl⟩
  obtain ⟨x1, hx1⟩ : ∃ x : Vec Ideal S1x8x640 .f32, iblk m c 1 t = x := ⟨_, rfl⟩
  obtain ⟨x2, hx2⟩ : ∃ x : Vec Ideal S256x5120 .bf16, iblk m c 2 t = x := ⟨_, rfl⟩
  obtain ⟨x4, hx4⟩ : ∃ x : Vec Ideal S1x5120 .f32, iblk m c 4 t = x := ⟨_, rfl⟩
  obtain ⟨x5, hx5⟩ : ∃ x : Vec Ideal S1x5120 .f32, iblk m c 5 t = x := ⟨_, rfl⟩
  obtain ⟨x6, hx6⟩ : ∃ x : Vec Ideal S1x1x5120 .f32, iblk m c 6 t = x := ⟨_, rfl⟩
  rw [hx0, hx1, hx2, hx4, hx5, hx6]
  generalize (k0_pay3 (F := Ideal) (iblk m c 3 t)) = w
  canon_tiles y h
  all_goals exact canon7 x0 x1 x2 w x4 x5 x6 _ (by decide) _ _ _ _ _ _ _ (scratch_read w _) (by omega) (by omega)

/-- The second output's block. -/
theorem out8_A (c : Dev nD) (t : Fin cfg0.N) (h : t.val % 64 = 0) (y : S1x5x256x128.Idx) :
    ((outsAt0 m c t.val t.isLt).2.1 : Vec Ideal S1x5x256x128 .i8) y = blk8 (iblk m c 0 t) (iblk m c 1 t) y := by
  rw [outsAt0_A m c t h]
  dsimp only
  frame_out
  obtain ⟨x0, hx0⟩ : ∃ x : Vec Ideal S256x640 .f32, iblk m c 0 t = x := ⟨_, rfl⟩
  obtain ⟨x1, hx1⟩ : ∃ x : Vec Ideal S1x8x640 .f32, iblk m c 1 t = x := ⟨_, rfl⟩
  rw [hx0, hx1]
  canon_tiles y h
  · exact canon8 x0 x1 4 (by decide) _ _ _ (by omega) (by omega) (by omega)
  · exact canon8 x0 x1 3 (by decide) _ _ _ (by omega) (by omega) (by omega)
  · exact canon8 x0 x1 2 (by decide) _ _ _ (by omega) (by omega) (by omega)
  · exact canon8 x0 x1 1 (by decide) _ _ _ (by omega) (by omega) (by omega)
  · exact canon8 x0 x1 0 (by decide) _ _ _ (by omega) (by omega) (by omega)

/-- The third output's block. -/
theorem out9_A (c : Dev nD) (t : Fin cfg0.N) (h : t.val % 64 = 0) (y : S1x1x256.Idx) :
    ((outsAt0 m c t.val t.isLt).2.2.1 : Vec Ideal S1x1x256 .f32) y = blk9 (iblk m c 0 t) (iblk m c 1 t) y := by
  rw [outsAt0_A m c t h]
  dsimp only
  frame_out
  exact canon9 (iblk m c 0 t) (iblk m c 1 t) y

/-- The first output's block, at a point of case B. -/
theorem out7_B (c : Dev nD) (t : Fin cfg0.N) (h : ¬ t.val % 64 = 0) (y : S256x5120.Idx) :
    ((outsAt0 m c t.val t.isLt).1 : Vec Ideal S256x5120 .bf16) y
      = blk7 (iblk m c 0 t) (iblk m c 1 t) (iblk m c 2 t) (outsAt0 m c (t.val - 1) (Nat.lt_of_le_of_lt (Nat.sub_le _ _) t.isLt)).2.2.2
          (iblk m c 4 t) (iblk m c 5 t) (iblk m c 6 t) y := by
  rw [outsAt0_B m c t h]
  dsimp only
  frame_out
  simp only [read_unread_whole]
  obtain ⟨x0, hx0⟩ : ∃ x : Vec Ideal S256x640 .f32, iblk m c 0 t = x := ⟨_, rfl⟩
  obtain ⟨x1, hx1⟩ : ∃ x : Vec Ideal S1x8x640 .f32, iblk m c 1 t = x := ⟨_, rfl⟩
  obtain ⟨x2, hx2⟩ : ∃ x : Vec Ideal S256x5120 .bf16, iblk m c 2 t = x := ⟨_, rfl⟩
  obtain ⟨x4, hx4⟩ : ∃ x : Vec Ideal S1x5120 .f32, iblk m c 4 t = x := ⟨_, rfl⟩
  obtain ⟨x5, hx5⟩ : ∃ x : Vec Ideal S1x5120 .f32, iblk m c 5 t = x := ⟨_, rfl⟩
  obtain ⟨x6, hx6⟩ : ∃ x : Vec Ideal S1x1x5120 .f32, iblk m c 6 t = x := ⟨_, rfl⟩
  rw [hx0, hx1, hx2, hx4, hx5, hx6]
  generalize (outsAt0 m c (t.val - 1) (Nat.lt_of_le_of_lt (Nat.sub_le _ _) t.isLt)).2.2.2 = w
  canon_tiles y h
  all_goals exact canon7 x0 x1 x2 w x4 x5 x6 _ (by decide) _ _ _ _ _ _ _ rfl (by omega) (by omega)

/-- The second output's block. -/
theorem out8_B (c : Dev nD) (t : Fin cfg0.N) (h : ¬ t.val % 64 = 0) (y : S1x5x256x128.Idx) :
    ((outsAt0 m c t.val t.isLt).2.1 : Vec Ideal S1x5x256x128 .i8) y = blk8 (iblk m c 0 t) (iblk m c 1 t) y := by
  rw [outsAt0_B m c t h]
  dsimp only
  frame_out
  obtain ⟨x0, hx0⟩ : ∃ x : Vec Ideal S256x640 .f32, iblk m c 0 t = x := ⟨_, rfl⟩
  obtain ⟨x1, hx1⟩ : ∃ x : Vec Ideal S1x8x640 .f32, iblk m c 1 t = x := ⟨_, rfl⟩
  rw [hx0, hx1]
  canon_tiles y h
  · exact canon8 x0 x1 4 (by decide) _ _ _ (by omega) (by omega) (by omega)
  · exact canon8 x0 x1 3 (by decide) _ _ _ (by omega) (by omega) (by omega)
  · exact canon8 x0 x1 2 (by decide) _ _ _ (by omega) (by omega) (by omega)
  · exact canon8 x0 x1 1 (by decide) _ _ _ (by omega) (by omega) (by omega)
  · exact canon8 x0 x1 0 (by decide) _ _ _ (by omega) (by omega) (by omega)

/-- The third output's block. -/
theorem out9_B (c : Dev nD) (t : Fin cfg0.N) (h : ¬ t.val % 64 = 0) (y : S1x1x256.Idx) :
    ((outsAt0 m c t.val t.isLt).2.2.1 : Vec Ideal S1x1x256 .f32) y = blk9 (iblk m c 0 t) (iblk m c 1 t) y := by
  rw [outsAt0_B m c t h]
  dsimp only
  frame_out
  exact canon9 (iblk m c 0 t) (iblk m c 1 t) y

end Cert.Proof.OutKernel

end
-- ==== Proof.OutFinal.lean ====
/-
  The output projection's kernel, its blocks put together: the three result arrays as functions of the argument arrays.
-/
module

public import proofs.«01_k».proof.Proof.OutKernel
public import proofs.«01_k».proof.Proof.Gen.OutIdeal.Value
public import Idealize.ShloMosaic.Lib.Pipeline.ReadBack

@[expose] public section

set_option maxRecDepth 16384

noncomputable section

namespace Cert.Proof.OutKernel

open Idealize.ShloMosaic Idealize.SL.Sem Cert.OutIdeal Cert.OutIdeal.Gen Idealize.ShloMosaic.TcCoe
open Idealize.ShloMosaic.Pipeline (Dat Cfg Window)
open Cert.Proof.Out

variable (m : (ℓ : Loc nD τ sig) → Buf (Elt Ideal) ℓ)

/-- The argument arrays, named. -/
abbrev A0 (c : Dev nD) : Vec Ideal S16384x640 .f32 := m ((c : Thread nD τ).loc main_arg0)
abbrev A1 (c : Dev nD) : Vec Ideal S2x8x640 .f32 := m ((c : Thread nD τ).loc main_arg1)
abbrev A2 (c : Dev nD) : Vec Ideal S2x8192x5120 .bf16 := m ((c : Thread nD τ).loc main_arg2)
abbrev A3 (c : Dev nD) : Vec Ideal S5x128x5120 .i8 := m ((c : Thread nD τ).loc main_arg3)
abbrev A4 (c : Dev nD) : Vec Ideal S5120 .f32 := m ((c : Thread nD τ).loc main_arg4)
abbrev A5 (c : Dev nD) : Vec Ideal S5120 .f32 := m ((c : Thread nD τ).loc main_arg5)
abbrev A6 (c : Dev nD) : Vec Ideal S2x5120 .f32 := m ((c : Thread nD τ).loc main_arg6)

/-- Where each window's block starts. -/
theorem idx (t : Fin cfg0.N) : win0_0.index t = ![t.val, 0] ∧ win0_1.index t = ![t.val / 32, 0, 0] ∧ win0_2.index t = ![t.val, 0]
    ∧ win0_3.index t = ![0, 0] ∧ win0_4.index t = ![0, 0] ∧ win0_5.index t = ![0, 0] ∧ win0_6.index t = ![t.val / 32, 0, 0]
    ∧ win0_7.index t = ![t.val, 0] ∧ win0_8.index t = ![t.val / 32, 0, t.val % 32, 0] ∧ win0_9.index t = ![t.val, 0, 0] :=
  (by decide +kernel : ∀ t : Fin cfg0.N, win0_0.index t = ![t.val, 0] ∧ win0_1.index t = ![t.val / 32, 0, 0] ∧ win0_2.index t = ![t.val, 0]
    ∧ win0_3.index t = ![0, 0] ∧ win0_4.index t = ![0, 0] ∧ win0_5.index t = ![0, 0] ∧ win0_6.index t = ![t.val / 32, 0, 0]
    ∧ win0_7.index t = ![t.val, 0] ∧ win0_8.index t = ![t.val / 32, 0, t.val % 32, 0] ∧ win0_9.index t = ![t.val, 0, 0]) t

theorem bat_lt (t : Fin cfg0.N) : t.val / 32 < 2 := by
  have h : t.val < 64 := t.isLt
  omega

theorem pos_lt (t : Fin cfg0.N) (r : Fin 256) : 256 * (t.val % 32) + r.val < 8192 := by
  have := r.isLt
  omega

theorem row_lt' (t : Fin cfg0.N) (r : Fin 256) : 256 * t.val + r.val < 16384 := by
  have h : t.val < 64 := t.isLt
  have := r.isLt
  omega

theorem b0 (c : Dev nD) (t : Fin cfg0.N) (r : Fin 256) (k : Fin 640) :
    (iblk m c 0 t : Vec Ideal S256x640 .f32) (ix2 r k) = A0 m c (ix2 ⟨256 * t.val + r.val, row_lt' t r⟩ k) := by
  blk_ext [iblk, V, idx t]

theorem b1 (c : Dev nD) (t : Fin cfg0.N) (b : Fin 8) (k : Fin 640) :
    (iblk m c 1 t : Vec Ideal S1x8x640 .f32) (ix3 0 b k) = A1 m c (ix3 ⟨t.val / 32, bat_lt t⟩ b k) := by
  blk_ext [iblk, V, idx t]

theorem b2 (c : Dev nD) (t : Fin cfg0.N) (r : Fin 256) (n : Fin 5120) :
    (iblk m c 2 t : Vec Ideal S256x5120 .bf16) (ix2 r n)
      = A2 m c (ix3 ⟨(256 * t.val + r.val) / 8192, Nat.div_lt_of_lt_mul (row_lt' t r)⟩ ⟨(256 * t.val + r.val) % 8192, Nat.mod_lt _ (by decide)⟩ n) := by
  blk_simp [iblk]
  entry_read
  pointwise
  blk_ext [idx t]

theorem b3 (c : Dev nD) (t : Fin cfg0.N) (k : Fin 640) (n : Fin 5120) :
    (iblk m c 3 t : Vec Ideal S640x5120 .i8) (ix2 k n) = A3 m c (ix3 ⟨k.val / 128, by omega⟩ ⟨k.val % 128, by omega⟩ n) := by
  blk_simp [iblk]
  entry_read
  pointwise
  blk_ext [idx t]

theorem b4 (c : Dev nD) (t : Fin cfg0.N) (k : Fin 5120) :
    (iblk m c 4 t : Vec Ideal S1x5120 .f32) (ix2 0 k) = A4 m c (ix1 k) := by
  blk_simp [iblk]
  entry_read
  pointwise
  blk_ext [idx t]

theorem b5 (c : Dev nD) (t : Fin cfg0.N) (k : Fin 5120) :
    (iblk m c 5 t : Vec Ideal S1x5120 .f32) (ix2 0 k) = A5 m c (ix1 k) := by
  blk_simp [iblk]
  entry_read
  pointwise
  blk_ext [idx t]

theorem b6 (c : Dev nD) (t : Fin cfg0.N) (k : Fin 5120) :
    (iblk m c 6 t : Vec Ideal S1x1x5120 .f32) (ix3 0 0 k) = A6 m c (ix2 ⟨t.val / 32, bat_lt t⟩ k) := by
  blk_simp [iblk]
  entry_read
  pointwise
  blk_ext [idx t]

theorem e7 (c : Dev nD) (t : Fin cfg0.N) (r : Fin 256) (n : Fin 5120) :
    ((View.whole main_v5_0).slice (win0_7.rect t)).emb (ix2 (n0 := 256) (n1 := 5120) r n) = ix2 (n0 := 16384) (n1 := 5120) ⟨256 * t.val + r.val, row_lt' t r⟩ n := by
  blk_ext [idx t]

theorem e8 (c : Dev nD) (t : Fin cfg0.N) (a : Fin 1) (h : Fin 5) (s : Fin 256) (l : Fin 128) :
    ((View.whole main_v5_1).slice (win0_8.rect t)).emb (ix4 (n0 := 1) (n1 := 5) (n2 := 256) (n3 := 128) a h s l)
      = ix4 (n0 := 2) (n1 := 5) (n2 := 8192) (n3 := 128) ⟨t.val / 32, bat_lt t⟩ h ⟨256 * (t.val % 32) + s.val, pos_lt t s⟩ l := by
  blk_ext [idx t]

theorem e9 (c : Dev nD) (t : Fin cfg0.N) (a b : Fin 1) (s : Fin 256) :
    ((View.whole main_v5_2).slice (win0_9.rect t)).emb (ix3 (n0 := 1) (n1 := 1) (n2 := 256) a b s)
      = ix3 (n0 := 64) (n1 := 1) (n2 := 256) ⟨t.val, t.isLt⟩ 0 s := by
  blk_ext [idx t]

/-- The weight's conversion. -/
theorem weight_A (c : Dev nD) (t : Fin cfg0.N) (k : Fin 640) (n : Fin 5120) :
    k0_pay3 (F := Ideal) (iblk m c 3 t) (ix2 k n)
      = FloatOps.sitofp (F := Ideal) FTy.bf16 (A3 m c (ix3 ⟨k.val / 128, by omega⟩ ⟨k.val % 128, by omega⟩ n)) := by
  have h : ∀ v : Vec Ideal S640x5120 .i8, k0_pay3 (F := Ideal) v (ix2 k n) = FloatOps.sitofp (F := Ideal) FTy.bf16 (v (ix2 k n)) := by
    intro v
    pointwise [k0_pay3]
  exact (h _).trans (congrArg _ (b3 m c t k n))

/-- The weight carried in scratch, at every point: the converted argument. -/
theorem weight (c : Dev nD) (t : Fin cfg0.N) (k : Fin 640) (n : Fin 5120) :
    ((outsAt0 m c t.val t.isLt).2.2.2 : Vec Ideal S640x5120 .bf16) (ix2 k n)
      = FloatOps.sitofp (F := Ideal) FTy.bf16 (A3 m c (ix3 ⟨k.val / 128, by omega⟩ ⟨k.val % 128, by omega⟩ n)) := by
  obtain ⟨t, ht⟩ := t
  induction t with
  | zero =>
    rw [outsAt0_A m c ⟨0, ht⟩ rfl]
    dsimp only
    frame_out
    exact weight_A m c ⟨0, ht⟩ k n
  | succ t ih =>
    by_cases h : (t + 1) % 64 = 0
    · rw [outsAt0_A m c ⟨t + 1, ht⟩ h]
      dsimp only
      frame_out
      exact weight_A m c ⟨t + 1, ht⟩ k n
    · rw [outsAt0_B m c ⟨t + 1, ht⟩ h]
      dsimp only
      try frame_out
      exact ih (Nat.lt_of_succ_lt ht)

variable (c : Dev nD) (t : Fin cfg0.N)

/-- A block's token is the array's. -/
theorem tok_eq (r : Fin 256) :
    tok (iblk m c 0 t) (iblk m c 1 t) r = token (A0 m c) (A1 m c) ⟨256 * t.val + r.val, row_lt' t r⟩ := by
  have h : t.val < 64 := t.isLt
  funext k
  refine (congrArg₂ (fun a b : EReal => a + b) (b0 m c t r k) (b1 m c t 1 k)).trans ?_
  have hb : t.val / 32 = (256 * t.val + r.val) / 8192 := by
    have := r.isLt
    omega
  unfold token
  simp only [hb]

/-- The first output's block, against any weights that convert the argument. -/
theorem val7 (w : Vec Ideal S640x5120 .bf16)
    (hw : ∀ k n, w (ix2 k n) = FloatOps.sitofp (F := Ideal) FTy.bf16 (A3 m c (ix3 ⟨k.val / 128, by omega⟩ ⟨k.val % 128, by omega⟩ n)))
    (r : Fin 256) (n : Fin 5120) :
    blk7 (iblk m c 0 t) (iblk m c 1 t) (iblk m c 2 t) w (iblk m c 4 t) (iblk m c 5 t) (iblk m c 6 t) (ix2 r n)
      = res7 (A0 m c) (A1 m c) (A2 m c) (A3 m c) (A4 m c) (A5 m c) (A6 m c) (ix2 ⟨256 * t.val + r.val, row_lt' t r⟩ n) := by
  have h : t.val < 64 := t.isLt
  have hb : t.val / 32 = (256 * t.val + r.val) / 8192 := by
    have := r.isLt
    omega
  have h2 := b2 m c t r n
  have h4 := b4 m c t n
  have h5 := b5 m c t n
  have h6 := b6 m c t n
  have ht := tok_eq m c t r
  simp only [hb] at h6
  unfold blk7 res7 Cert.Proof.Out.hidden
  simp only [ix2_0, ix2_1]
  refine congrArg₂ (fun a b : EReal => a + b) h2 (congrArg₂ (fun a b : EReal => a * b) h6 (congrArg₂ (fun a b : EReal => a + b) ?_ h5))
  refine congrArg₂ (fun a b : EReal => a * b) ?_ h4
  rw [ht]
  simp only [hw]

/-- The first result. -/
theorem fin7 : (dats m 0 c).arrAt 7 cfg0.N = res7 (A0 m c) (A1 m c) (A2 m c) (A3 m c) (A4 m c) (A5 m c) (A6 m c) := by
  refine (dats m 0 c).arrAt_eq_of_covers 7 _ (by decide +kernel) fun t hf y => ?_
  blk_simp
  rw [after0_7]
  obtain ⟨r, n, rfl⟩ : ∃ (a : Fin 256) (b : Fin 5120), y = ix2 a b := ⟨y 0, y 1, eq_ix2 y⟩
  rw [e7 c t r n]
  by_cases h : t.val % 64 = 0
  · refine (out7_A m c t h _).trans (val7 m c t _ (fun k n => ?_) r n)
    exact weight_A m c t k n
  · refine (out7_B m c t h _).trans (val7 m c t _ (fun k n => ?_) r n)
    exact weight m c ⟨t.val - 1, Nat.lt_of_le_of_lt (Nat.sub_le _ _) t.isLt⟩ k n

/-- The second result. -/
theorem fin8 : (dats m 0 c).arrAt 8 cfg0.N = res8 (A0 m c) (A1 m c) := by
  refine (dats m 0 c).arrAt_eq_of_covers 8 _ (by decide +kernel) fun t hf y => ?_
  blk_simp
  rw [after0_8]
  obtain ⟨b, h, s, l, rfl⟩ : ∃ (a : Fin 1) (b : Fin 5) (s : Fin 256) (l : Fin 128), y = ix4 a b s l :=
    ⟨y 0, y 1, y 2, y 3, eq_ix4 y⟩
  rw [e8 c t b h s l]
  have hv : blk8 (iblk m c 0 t) (iblk m c 1 t) (ix4 b h s l)
      = res8 (A0 m c) (A1 m c) (ix4 ⟨t.val / 32, bat_lt t⟩ h ⟨256 * (t.val % 32) + s.val, pos_lt t s⟩ l) := by
    have hb : 256 * t.val + s.val = t.val / 32 * 8192 + (256 * (t.val % 32) + s.val) := by omega
    unfold blk8 res8
    simp only [ix4_0, ix4_1, ix4_2, ix4_3]
    rw [tok_eq m c t s]
    simp only [hb]
  by_cases h' : t.val % 64 = 0
  · exact (out8_A m c t h' _).trans hv
  · exact (out8_B m c t h' _).trans hv

/-- The third result. -/
theorem fin9 : (dats m 0 c).arrAt 9 cfg0.N = res9 (A0 m c) (A1 m c) := by
  refine (dats m 0 c).arrAt_eq_of_covers 9 _ (by decide +kernel) fun t hf y => ?_
  blk_simp
  rw [after0_9]
  obtain ⟨a, b, s, rfl⟩ : ∃ (a : Fin 1) (b : Fin 1) (s : Fin 256), y = ix3 a b s := ⟨y 0, y 1, y 2, eq_ix3 y⟩
  rw [e9 c t a b s]
  have hv : blk9 (iblk m c 0 t) (iblk m c 1 t) (ix3 a b s) = res9 (A0 m c) (A1 m c) (ix3 ⟨t.val, t.isLt⟩ 0 s) := by
    have hb : 256 * t.val + s.val = t.val * 256 + s.val := by omega
    unfold blk9 res9
    simp only [ix3_0, ix3_2]
    rw [tok_eq m c t s]
    simp only [hb]
  by_cases h' : t.val % 64 = 0
  · exact (out9_A m c t h' _).trans hv
  · exact (out9_B m c t h' _).trans hv

variable (ρ : Dev nD → PrngReg)

/-- The kernel's run: its three results, and its arguments unchanged. -/
theorem run : θ_run defs (onTc (τ := τ) (main (F := Ideal))) ⟨m, fun _ => 0, ρ⟩ fun r => ∀ c : Dev nD,
      r.2.mem ((c : Thread nD τ).loc main_v5_0) = res7 (A0 m c) (A1 m c) (A2 m c) (A3 m c) (A4 m c) (A5 m c) (A6 m c)
      ∧ r.2.mem ((c : Thread nD τ).loc main_v5_1) = res8 (A0 m c) (A1 m c)
      ∧ r.2.mem ((c : Thread nD τ).loc main_v5_2) = res9 (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (fin7 m c), (h c).2.1.trans (fin8 m c), (h c).2.2.1.trans (fin9 m c), (h c).2.2.2⟩)
    (Value.run_blocks m ρ)

end Cert.Proof.OutKernel

end
-- ==== Proof.OutRef.lean ====
/-
  The reference of the output projection, run: its three result arrays as functions of its argument arrays.
-/
module

public import proofs.«01_k».proof.Proof.OutSpec
public import proofs.«01_k».proof.Proof.Gen.OutRefIdeal.Frame
public import Idealize.ShloMosaic.Lib.Pipeline.ValueKit
public import Idealize.ShloMosaic.Lib.Pipeline.ReadBack

@[expose] public section

set_option maxRecDepth 16384

noncomputable section

namespace Cert.Proof.OutRef

open Idealize.ShloMosaic Idealize.SL.Sem Cert.OutRefIdeal Cert.OutRefIdeal.Gen Idealize.ShloMosaic.TcCoe
open Idealize.ShloMosaic.Pipeline (Dat Cfg Window)
open Cert.Proof.Out

/-- A token's outputs with the mean added. -/
theorem pay4_apply (v3 : Vec Ideal S16384x640 .f32) (v4 : Vec Ideal S2x1x640 .f32) (r : Fin 16384) (k : Fin 640) :
    k0_pay4 (F := Ideal) v3 v4 (ix2 r k) = v3 (ix2 r k) + v4 (ix3 ⟨r.val / 8192, by omega⟩ 0 k) := by
  pointwise [k0_pay4]

/-- The largest magnitudes over any matrix of outputs. -/
theorem amax_apply (w : FVec Ideal S16384x640 .f32) (r : Fin 16384) :
    multiReduction (F := Ideal) .maximumf [1] S16384 (absf w) 0xFF800000#32 reduces_S16384x640_S16384 (.inl rfl) rfl (ix1 r)
      = amax (fun k => w (ix2 r k)) := by
  unfold amax
  pointwise

/-- The scale column over any vector of largest magnitudes. -/
theorem scale_apply (v9 : FVec Ideal S16384 .f32) (r : Fin 16384) :
    (have v10 : FVec Ideal S16384x1 .f32 := shapeCast S16384x1 v9 shapeCasts_S16384_S16384x1
     have cst_3 : Ideal .f32 := Scalar.ofBits .f32 0x00000000#32
     have v11 : FVec Ideal S16384x1 .f32 := broadcast S16384x1 cst_3
     have v12 : IVec S16384x1 1 := cmpf .oeq v10 v11
     have cst_4 : Ideal .f32 := Scalar.ofBits .f32 0x42FE0000#32
     have v13 : FVec Ideal S16384x1 .f32 := broadcast S16384x1 cst_4
     have v14 : FVec Ideal S16384x1 .f32 := divf v10 v13
     have cst_5 : Ideal .f32 := Scalar.ofBits .f32 0x3F800000#32
     have v15 : FVec Ideal S16384x1 .f32 := broadcast S16384x1 cst_5
     have v16 : FVec Ideal S16384x1 .f32 := select v12 v15 v14
     v16) (ix2 r 0) = if v9 (ix1 r) = 0 then 1 else Ideal.div (v9 (ix1 r)) (Ideal.ofBits FTy.f32 1123942400#32) := by
  pointwise

/-- The reference's scale of a token. -/
theorem pay5_apply (v3 : Vec Ideal S16384x640 .f32) (v4 : Vec Ideal S2x1x640 .f32) (r : Fin 16384) :
    k0_pay5 (F := Ideal) v3 v4 (ix2 r 0) = scale (fun k => k0_pay4 (F := Ideal) v3 v4 (ix2 r k)) := by
  refine (scale_apply (multiReduction (F := Ideal) .maximumf [1] S16384 (absf (k0_pay4 v3 v4)) 0xFF800000#32
    reduces_S16384x640_S16384 (.inl rfl) rfl) r).trans ?_
  rw [amax_apply]
  rfl

/-- The codes over any matrix of outputs and any column of scales. -/
theorem code_apply (w : FVec Ideal S16384x640 .f32) (w5 : FVec Ideal S16384x1 .f32) (r : Fin 16384) (k : Fin 640) :
    (have v17 : FVec Ideal S16384x640 .f32 := broadcastTo S16384x640 w5 broadcasts_S16384x1_S16384x640
     have v18 : FVec Ideal S16384x640 .f32 := divf w v17
     have v19 : FVec Ideal S16384x640 .f32 := roundeven v18
     have cst_6 : Ideal .f32 := Scalar.ofBits .f32 0xC2FE0000#32
     have cst_7 : Ideal .f32 := Scalar.ofBits .f32 0x42FE0000#32
     have v20 : FVec Ideal S16384x640 .f32 := broadcast S16384x640 cst_6
     have v21 : FVec Ideal S16384x640 .f32 := maximumf v20 v19
     have v22 : FVec Ideal S16384x640 .f32 := broadcast S16384x640 cst_7
     have v23 : FVec Ideal S16384x640 .f32 := minimumf v22 v21
     have v24 : IVec S16384x640 8 := fptosi 8 v23
     v24) (ix2 r k) = code (Ideal.div (w (ix2 r k)) (w5 (ix2 r 0))) := by
  unfold code
  pointwise

/-- The reference's codes. -/
theorem pay6_apply (v3 : Vec Ideal S16384x640 .f32) (v4 : Vec Ideal S2x1x640 .f32) (r : Fin 16384) (k : Fin 640) :
    k0_pay6 (F := Ideal) v3 v4 (ix2 r k)
      = code (Ideal.div (k0_pay4 (F := Ideal) v3 v4 (ix2 r k)) (k0_pay5 (F := Ideal) v3 v4 (ix2 r 0))) :=
  code_apply (k0_pay4 v3 v4) (k0_pay5 v3 v4) r k

/-- The projection over any codes and any column of scales. -/
theorem proj_apply (w6 : IVec S16384x640 8) (w5 : FVec Ideal S16384x1 .f32) (v26 : Vec Ideal S5x128x5120 .i8)
    (v32 v36 : Vec Ideal S1x5120 .f32) (r : Fin 16384) (n : Fin 5120) :
    (have v25 : FVec Ideal S16384x640 .bf16 := sitofp .bf16 w6
     have v27 : IVec S640x5120 8 := shapeCast S640x5120 v26 shapeCasts_S5x128x5120_S640x5120
     have v28 : FVec Ideal S640x5120 .bf16 := sitofp .bf16 v27
     have cst_11 : FVec Ideal S16384x5120 .f32 := constant S16384x5120 .f32 0x00000000#32
     have v29 : FVec Ideal S16384x5120 .f32 := matmul dot_S16384x640_S640x5120_S16384x5120_1_0_0_1_n_n none v25 v28 cst_11
     have v30 : FVec Ideal S16384x5120 .f32 := broadcastTo S16384x5120 w5 broadcasts_S16384x1_S16384x5120
     have v31 : FVec Ideal S16384x5120 .f32 := mulf v29 v30
     have v33 : FVec Ideal S1x5120 .f32 := shapeCast S1x5120 v32 shapeCasts_S1x5120_S1x5120
     have v34 : FVec Ideal S16384x5120 .f32 := broadcastTo S16384x5120 v33 broadcasts_S1x5120_S16384x5120
     have v35 : FVec Ideal S16384x5120 .f32 := mulf v31 v34
     have v37 : FVec Ideal S1x5120 .f32 := shapeCast S1x5120 v36 shapeCasts_S1x5120_S1x5120
     have v38 : FVec Ideal S16384x5120 .f32 := broadcastTo S16384x5120 v37 broadcasts_S1x5120_S16384x5120
     have v39 : FVec Ideal S16384x5120 .f32 := addf v35 v38
     v39) (ix2 r n)
      = (∑ x : Fin 640, FloatOps.sitofp (F := Ideal) FTy.bf16 (w6 (ix2 r x))
          * FloatOps.sitofp (F := Ideal) FTy.bf16 (v26 (ix3 ⟨x.val / 128, by omega⟩ ⟨x.val % 128, by omega⟩ n)))
          * w5 (ix2 r 0) * v32 (ix2 0 n) + v36 (ix2 0 n) := by
  pointwise

/-- The reference's projection before the residual. -/
theorem pay7_apply (v3 : Vec Ideal S16384x640 .f32) (v4 : Vec Ideal S2x1x640 .f32) (v26 : Vec Ideal S5x128x5120 .i8)
    (v32 v36 : Vec Ideal S1x5120 .f32) (r : Fin 16384) (n : Fin 5120) :
    k0_pay7 (F := Ideal) v3 v4 v26 v32 v36 (ix2 r n)
      = (∑ x : Fin 640, FloatOps.sitofp (F := Ideal) FTy.bf16 (k0_pay6 (F := Ideal) v3 v4 (ix2 r x))
          * FloatOps.sitofp (F := Ideal) FTy.bf16 (v26 (ix3 ⟨x.val / 128, by omega⟩ ⟨x.val % 128, by omega⟩ n)))
          * k0_pay5 (F := Ideal) v3 v4 (ix2 r 0) * v32 (ix2 0 n) + v36 (ix2 0 n) :=
  proj_apply (k0_pay6 (F := Ideal) v3 v4) (k0_pay5 v3 v4) v26 v32 v36 r n

/-- The residual added under the gate. -/
theorem pay1_apply (v3 : FVec Ideal S16384x5120 .f32) (v4 : Vec Ideal S2x8192x5120 .bf16) (v5 : Vec Ideal S2x5120 .f32)
    (r : Fin 16384) (k : Fin 5120) :
    k0_pay1 (F := Ideal) v3 v4 v5 (ix2 r k)
      = v4 (ix3 ⟨r.val / 8192, by omega⟩ ⟨r.val % 8192, by omega⟩ k) + v5 (ix2 ⟨r.val / 8192, by omega⟩ k) * v3 (ix2 r k) := by
  unfold k0_pay1
  pointwise

/-- The codes, heads first. -/
theorem pay2_apply (v : IVec S16384x640 8) (b : Fin 2) (h : Fin 5) (s : Fin 8192) (l : Fin 128) :
    k0_pay2 v (ix4 b h s l) = v (ix2 ⟨b.val * 8192 + s.val, by omega⟩ ⟨h.val * 128 + l.val, by omega⟩) := by
  unfold k0_pay2
  pointwise

/-- The scales, by blocks of 256 tokens. -/
theorem pay3_apply (v : FVec Ideal S16384x1 .f32) (b : Fin 64) (s : Fin 256) :
    k0_pay3 v (ix3 b 0 s) = v (ix2 ⟨b.val * 256 + s.val, by omega⟩ 0) := by
  unfold k0_pay3
  pointwise

variable (m : (ℓ : Loc nD τ sig) → Buf (Elt Ideal) ℓ)

/-- The argument arrays, named. -/
abbrev A0 (c : Dev nD) : Vec Ideal S16384x640 .f32 := m ((c : Thread nD τ).loc main_arg0)
abbrev A1 (c : Dev nD) : Vec Ideal S2x8x640 .f32 := m ((c : Thread nD τ).loc main_arg1)
abbrev A2 (c : Dev nD) : Vec Ideal S2x8192x5120 .bf16 := m ((c : Thread nD τ).loc main_arg2)
abbrev A3 (c : Dev nD) : Vec Ideal S5x128x5120 .i8 := m ((c : Thread nD τ).loc main_arg3)
abbrev A4 (c : Dev nD) : Vec Ideal S5120 .f32 := m ((c : Thread nD τ).loc main_arg4)
abbrev A5 (c : Dev nD) : Vec Ideal S5120 .f32 := m ((c : Thread nD τ).loc main_arg5)
abbrev A6 (c : Dev nD) : Vec Ideal S2x5120 .f32 := m ((c : Thread nD τ).loc main_arg6)

/-- Every window's one block starts at the array's start. -/
theorem idx (t : Fin cfg0.N) : win0_0.index t = ![0, 0] ∧ win0_1.index t = ![0, 0, 0] ∧ win0_2.index t = ![0, 0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0, 0, 0] ∧ win0_9.index t = ![0, 0, 0] :=
  (by decide +kernel : ∀ t : Fin cfg0.N, win0_0.index t = ![0, 0] ∧ win0_1.index t = ![0, 0, 0] ∧ win0_2.index t = ![0, 0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0, 0, 0] ∧ win0_9.index t = ![0, 0, 0]) t

theorem b0 (c : Dev nD) (t : Fin cfg0.N) (r : Fin 16384) (k : Fin 640) :
    (iblk m c 0 t : Vec Ideal S16384x640 .f32) (ix2 r k) = A0 m c (ix2 r k) := by
  blk_ext [iblk, V, idx t]

theorem b1 (c : Dev nD) (t : Fin cfg0.N) (b : Fin 2) (k : Fin 640) :
    (View.ld (iblk m c 1 t : Vec Ideal S2x8x640 .f32) r0_1 : Vec Ideal S2x1x640 .f32) (ix3 b 0 k) = A1 m c (ix3 b 1 k) := by
  unfold r0_1
  pointwise
  blk_ext [iblk, V, idx t]

theorem b2 (c : Dev nD) (t : Fin cfg0.N) (b : Fin 2) (s : Fin 8192) (k : Fin 5120) :
    (iblk m c 2 t : Vec Ideal S2x8192x5120 .bf16) (ix3 b s k) = A2 m c (ix3 b s k) := by
  blk_ext [iblk, V, idx t]

theorem b3 (c : Dev nD) (t : Fin cfg0.N) (b : Fin 5) (s : Fin 128) (k : Fin 5120) :
    (iblk m c 3 t : Vec Ideal S5x128x5120 .i8) (ix3 b s k) = A3 m c (ix3 b s k) := by
  blk_ext [iblk, V, idx t]

theorem b4 (c : Dev nD) (t : Fin cfg0.N) (k : Fin 5120) :
    (iblk m c 4 t : Vec Ideal S1x5120 .f32) (ix2 0 k) = A4 m c (ix1 k) := by
  blk_simp [iblk]
  entry_read
  pointwise
  blk_ext [idx t]

theorem b5 (c : Dev nD) (t : Fin cfg0.N) (k : Fin 5120) :
    (iblk m c 5 t : Vec Ideal S1x5120 .f32) (ix2 0 k) = A5 m c (ix1 k) := by
  blk_simp [iblk]
  entry_read
  pointwise
  blk_ext [idx t]

theorem b6 (c : Dev nD) (t : Fin cfg0.N) (b : Fin 2) (k : Fin 5120) :
    (iblk m c 6 t : Vec Ideal S2x5120 .f32) (ix2 b k) = A6 m c (ix2 b k) := by
  blk_ext [iblk, V, idx t]

theorem e7 (c : Dev nD) (t : Fin cfg0.N) (y : S16384x5120.Idx) :
    ((View.whole main_v2_0).slice (win0_7.rect t)).emb y = y := by
  blk_ext [idx t]

theorem e8 (c : Dev nD) (t : Fin cfg0.N) (y : S2x5x8192x128.Idx) :
    ((View.whole main_v2_1).slice (win0_8.rect t)).emb y = y := by
  blk_ext [idx t]

theorem e9 (c : Dev nD) (t : Fin cfg0.N) (y : S64x1x256.Idx) :
    ((View.whole main_v2_2).slice (win0_9.rect t)).emb y = y := by
  blk_ext [idx t]

section values

variable {x0 : Vec Ideal S16384x640 .f32} {x1 : Vec Ideal S2x1x640 .f32} {x2 : Vec Ideal S2x8192x5120 .bf16}
  {x3 : Vec Ideal S5x128x5120 .i8} {x4 x5 : Vec Ideal S1x5120 .f32} {x6 : Vec Ideal S2x5120 .f32}
  {a0 : Vec Ideal S16384x640 .f32} {a1 : Vec Ideal S2x8x640 .f32} {a2 : Vec Ideal S2x8192x5120 .bf16}
  {a3 : Vec Ideal S5x128x5120 .i8} {a4 a5 : Vec Ideal S5120 .f32} {a6 : Vec Ideal S2x5120 .f32}
  (h0 : ∀ r k, x0 (ix2 r k) = a0 (ix2 r k)) (h1 : ∀ b k, x1 (ix3 b 0 k) = a1 (ix3 b 1 k))

include h0 h1 in
/-- A token's row as the body reads it. -/
theorem token_eq (r : Fin 16384) : (fun k => k0_pay4 (F := Ideal) x0 x1 (ix2 r k)) = token a0 a1 r := by
  funext k
  rw [pay4_apply, h0, h1]
  rfl

include h0 h1 in
/-- The first result, from the blocks' reads. -/
theorem val7 (h2 : ∀ b s n, x2 (ix3 b s n) = a2 (ix3 b s n)) (h3 : ∀ b s n, x3 (ix3 b s n) = a3 (ix3 b s n))
    (h4 : ∀ n, x4 (ix2 0 n) = a4 (ix1 n)) (h5 : ∀ n, x5 (ix2 0 n) = a5 (ix1 n)) (h6 : ∀ b n, x6 (ix2 b n) = a6 (ix2 b n))
    (r : Fin 16384) (n : Fin 5120) :
    k0_pay1 (F := Ideal) (k0_pay7 x0 x1 x3 x4 x5) x2 x6 (ix2 r n) = res7 a0 a1 a2 a3 a4 a5 a6 (ix2 r n) := by
  have ht := token_eq h0 h1 r
  have ht' := congrFun ht
  rw [pay1_apply, pay7_apply, pay5_apply, h2, h4, h5, h6, ht]
  simp only [pay6_apply, pay5_apply, h3, ht, ht']
  rfl

include h0 h1 in
/-- The second result, from the blocks' reads. -/
theorem val8 (b : Fin 2) (h : Fin 5) (s : Fin 8192) (l : Fin 128) :
    k0_pay2 (k0_pay6 (F := Ideal) x0 x1) (ix4 b h s l) = res8 a0 a1 (ix4 b h s l) := by
  have ht := fun r => token_eq h0 h1 r
  have ht' := fun r => congrFun (ht r)
  rw [pay2_apply, pay6_apply, pay5_apply, ht, ht']
  rfl

include h0 h1 in
/-- The third result, from the blocks' reads. -/
theorem val9 (b : Fin 64) (s : Fin 256) :
    k0_pay3 (k0_pay5 (F := Ideal) x0 x1) (ix3 b 0 s) = res9 a0 a1 (ix3 b 0 s) := by
  rw [pay3_apply, pay5_apply, token_eq h0 h1]
  rfl

end values

/-- The first result: the residual stream after the projection. -/
theorem fin7 (c : Dev nD) : (dats m 0 c).arrAt 7 cfg0.N = res7 (A0 m c) (A1 m c) (A2 m c) (A3 m c) (A4 m c) (A5 m c) (A6 m c) := by
  refine (dats m 0 c).arrAt_eq_of_covers 7 _ (by decide +kernel) fun t hf y => ?_
  blk_simp
  rw [after0_7]
  frame_out
  rw [e7 c t y, show y = ix2 (n0 := 16384) (n1 := 5120) (y 0) (y 1) from eq_ix2 (n0 := 16384) (n1 := 5120) y]
  exact val7 (b0 m c t) (b1 m c t) (b2 m c t) (b3 m c t) (b4 m c t) (b5 m c t) (b6 m c t) _ _

/-- The second result: the codes. -/
theorem fin8 (c : Dev nD) : (dats m 0 c).arrAt 8 cfg0.N = res8 (A0 m c) (A1 m c) := by
  refine (dats m 0 c).arrAt_eq_of_covers 8 _ (by decide +kernel) fun t hf y => ?_
  blk_simp
  rw [after0_8]
  frame_out
  rw [e8 c t y]
  obtain ⟨b, h, s, l, rfl⟩ : ∃ (a : Fin 2) (b : Fin 5) (s : Fin 8192) (l : Fin 128), y = ix4 a b s l :=
    ⟨y 0, y 1, y 2, y 3, eq_ix4 y⟩
  exact val8 (b0 m c t) (b1 m c t) _ _ _ _

/-- An index of the scales' array, by its coordinates. -/
theorem eq_ix3' (y : S64x1x256.Idx) : ∃ (a : Fin 64) (b : Fin 256), y = ix3 a 0 b := by
  idx_vars y
  exact ⟨y0, y2, by rw [Subsingleton.elim y1 0]⟩

/-- The third result: the scales. -/
theorem fin9 (c : Dev nD) : (dats m 0 c).arrAt 9 cfg0.N = res9 (A0 m c) (A1 m c) := by
  refine (dats m 0 c).arrAt_eq_of_covers 9 _ (by decide +kernel) fun t hf y => ?_
  blk_simp
  rw [after0_9]
  frame_out
  rw [e9 c t y]
  obtain ⟨b, h, rfl⟩ := eq_ix3' y
  exact val9 (b0 m c t) (b1 m c t) _ _

variable (ρ : Dev nD → PrngReg)

/-- The run: the three result arrays hold the functions above, and the arguments end unchanged. -/
theorem run : θ_run defs (onTc (τ := τ) (main (F := Ideal))) ⟨m, fun _ => 0, ρ⟩ fun r => ∀ c : Dev nD,
      r.2.mem ((c : Thread nD τ).loc main_v2_0) = res7 (A0 m c) (A1 m c) (A2 m c) (A3 m c) (A4 m c) (A5 m c) (A6 m c)
      ∧ r.2.mem ((c : Thread nD τ).loc main_v2_1) = res8 (A0 m c) (A1 m c)
      ∧ r.2.mem ((c : Thread nD τ).loc main_v2_2) = res9 (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (fin7 m c), ((h c).1 8).trans (fin8 m c), ((h c).1 9).trans (fin9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c)))⟩)
    (run_main m ρ)

end Cert.Proof.OutRef

end
-- ==== Proof.OutAlgebraic.lean ====
/-
  The output projection: the kernel's idealization and the reference's end with equal results.
-/
module

public import proofs.«01_k».proof.Proof.OutFinal
public import proofs.«01_k».proof.Proof.OutRef

@[expose] public section

noncomputable section

namespace Cert.Proof

open Idealize.ShloMosaic Idealize.SL.Sem

/-- Both programs compute the projection written out in `Cert.Proof.Out`. -/
theorem out_algebraic [hK : Cert.OutIdeal.Facts] [hR : Cert.OutRefIdeal.Facts] :
    Cert.algebraic_OutIdeal_OutRefIdeal := by
  intro m ρ m' ρ' _ hagree
  refine ⟨_, _, _, OutKernel.run m ρ, ?_⟩
  refine (θ_run Cert.OutRefIdeal.defs _ _).mono (fun _ h c => ?_) (OutRef.run m' ρ')
  obtain ⟨e0, e1, e2, e3, e4, e5, e6⟩ := hagree c
  obtain ⟨h7, h8, h9, h⟩ := h c
  have f0 : OutRef.A0 m' c = OutKernel.A0 m c := e0
  have f1 : OutRef.A1 m' c = OutKernel.A1 m c := e1
  have f2 : OutRef.A2 m' c = OutKernel.A2 m c := e2
  have f3 : OutRef.A3 m' c = OutKernel.A3 m c := e3
  have f4 : OutRef.A4 m' c = OutKernel.A4 m c := e4
  have f5 : OutRef.A5 m' c = OutKernel.A5 m c := e5
  have f6 : OutRef.A6 m' c = OutKernel.A6 m c := e6
  rw [f0, f1, f2, f3, f4, f5, f6] at h7
  rw [f0, f1] at h8 h9
  exact ⟨h7, h8, h9, h⟩

end Cert.Proof

end
-- ==== Proof.lean ====
/-
  The proof of the certificate: the frames are the generated ones, the named constants are what the table says, and the value
  claims are proved in the modules imported here.
-/
module

public import proofs.«01_k».proof.Defs
public import proofs.«01_k».proof.Proof.AttnAlgebraic
public import proofs.«01_k».proof.Proof.OutAlgebraic
public import proofs.«01_k».proof.Proof.Gen.AttentionIdeal.Value
public import proofs.«01_k».proof.Proof.Gen.OutIdeal.Value
public import proofs.«01_k».proof.Proof.Gen.Attention.Frame
public import proofs.«01_k».proof.Proof.Gen.AttentionIdeal.Frame
public import proofs.«01_k».proof.Proof.Gen.AttentionRefIdeal.Frame
public import proofs.«01_k».proof.Proof.Gen.AttentionRef.Frame
public import proofs.«01_k».proof.Proof.Gen.Out.Frame
public import proofs.«01_k».proof.Proof.Gen.OutIdeal.Frame
public import proofs.«01_k».proof.Proof.Gen.OutRefIdeal.Frame
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Attention.Gen.facts, Cert.AttentionIdeal.Gen.facts, Cert.AttentionRefIdeal.Gen.facts, Cert.AttentionRef.Gen.facts,
    Cert.Out.Gen.facts, Cert.OutIdeal.Gen.facts, Cert.OutRefIdeal.Gen.facts,
    fun m ρ _ => Cert.Attention.Gen.frame m ρ,
    fun m ρ _ => Cert.AttentionIdeal.Gen.frame m ρ,
    fun m ρ _ => Cert.AttentionRefIdeal.Gen.frame m ρ,
    fun m ρ _ => Cert.AttentionRef.Gen.frame m ρ,
    fun m ρ _ => Cert.Out.Gen.frame m ρ,
    fun m ρ _ => Cert.OutIdeal.Gen.frame m ρ,
    fun m ρ _ => Cert.OutRefIdeal.Gen.frame m ρ,
    ⟨IdealRules.named_const.statement _ _ _ _ _ rfl, IdealRules.named_const.statement _ _ _ _ _ rfl,
      IdealRules.named_const.statement _ _ _ _ _ rfl⟩,
    ⟨IdealRules.named_const.statement _ _ _ _ _ rfl, IdealRules.named_const.statement _ _ _ _ _ rfl⟩,
    attn_algebraic,
    trivial,
    out_algebraic⟩

end Cert.Proof

end
